-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4096x512 : Shape := ⟨2, ![4096, 512]⟩
abbrev S4 : Shape := ⟨1, ![4]⟩
abbrev S2 : Shape := ⟨1, ![2]⟩
abbrev S_ : Shape := ⟨0, ![]⟩
abbrev S128x512 : Shape := ⟨2, ![128, 512]⟩
abbrev S1 : Shape := ⟨1, ![1]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S4096x512, .bf16⟩
  | .local _ .vmem, ⟨0, _⟩ => ⟨S2048x512, .bf16⟩
  | .local _ .vmem, ⟨1, _⟩ => ⟨S4096x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v16 : BitVec 32 := Scalar.muli v2 c8_i32_8
  let v17 : BitVec 32 := Scalar.addi c0_i32 v16
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_9 : BitVec 32 := 4#32
  let v18 : BitVec 32 := Scalar.muli v10 c4_i32_9
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v20 : BitVec 32 := Scalar.muli v8 c1_i32_10
  let v21 : BitVec 32 := Scalar.addi v19 v20
  v21.toNat
def k0_dev2 (d0 : Dev nD) : Nat :=
  let c0_i32_13 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_12 : BitVec 32 := 8#32
  let v22 : BitVec 32 := Scalar.muli v11 c8_i32_12
  let v23 : BitVec 32 := Scalar.addi c0_i32_13 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v24 : BitVec 32 := Scalar.muli v5 c4_i32_14
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.muli v8 c1_i32_15
  let v27 : BitVec 32 := Scalar.addi v25 v26
  v27.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_20 : BitVec 32 := 1#32
  let v32 : BitVec 32 := Scalar.muli v14 c1_i32_20
  let v33 : BitVec 32 := Scalar.addi v31 v32
  v33.toNat
def k0_off1 (d0 : Dev nD) (c0_i32_38 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_23 : BitVec 32 := 2#32
  let v37 : BitVec 32 := Scalar.muli v2 c2_i32_23
  let c512_i32 : BitVec 32 := 512#32
  let v38 : BitVec 32 := Scalar.muli v37 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_24 : BitVec 32 := 512#32
  let v39 : BitVec 32 := Scalar.muli v9 c512_i32_24
  let v40 : BitVec 32 := Scalar.addi v38 v39
  let v57 : BitVec 32 := Scalar.addi v40 c0_i32_38
  let v58 : Index := Scalar.indexCast v57
  let c0 : Index := 0#32
  ![v58.toNat, 0]
def k0_off2 (d0 : Dev nD) (c0_i32_39 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v34 : BitVec 32 := Scalar.muli v5 c2048_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_23 : BitVec 32 := 2#32
  let v37 : BitVec 32 := Scalar.muli v2 c2_i32_23
  let c512_i32 : BitVec 32 := 512#32
  let v38 : BitVec 32 := Scalar.muli v37 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_24 : BitVec 32 := 512#32
  let v39 : BitVec 32 := Scalar.muli v9 c512_i32_24
  let v40 : BitVec 32 := Scalar.addi v38 v39
  let v61 : BitVec 32 := Scalar.addi v34 v40
  let v62 : BitVec 32 := Scalar.addi v61 c0_i32_39
  let v63 : Index := Scalar.indexCast v62
  let c0_40 : Index := 0#32
  ![v63.toNat, 0]
def k0_off3 (d0 : Dev nD) (c0_i32_41 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v34 : BitVec 32 := Scalar.muli v5 c2048_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_23 : BitVec 32 := 2#32
  let v37 : BitVec 32 := Scalar.muli v2 c2_i32_23
  let c512_i32 : BitVec 32 := 512#32
  let v38 : BitVec 32 := Scalar.muli v37 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_24 : BitVec 32 := 512#32
  let v39 : BitVec 32 := Scalar.muli v9 c512_i32_24
  let v40 : BitVec 32 := Scalar.addi v38 v39
  let v65 : BitVec 32 := Scalar.addi v34 v40
  let v66 : BitVec 32 := Scalar.addi v65 c0_i32_41
  let c0_i32_48 : BitVec 32 := 0#32
  ![v66.toNat, 0]
def k0_dev4 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v67 : BitVec 32 := Scalar.muli v2 c8_i32_44
  let v68 : BitVec 32 := Scalar.addi c0_i32_45 v67
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_46 : BitVec 32 := 4#32
  let v69 : BitVec 32 := Scalar.muli v10 c4_i32_46
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v71 : BitVec 32 := Scalar.muli v8 c1_i32_47
  let v72 : BitVec 32 := Scalar.addi v70 v71
  v72.toNat
def k0_dev5 (d0 : Dev nD) : Nat :=
  let c0_i32_57 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_56 : BitVec 32 := 8#32
  let v89 : BitVec 32 := Scalar.muli v2 c8_i32_56
  let v90 : BitVec 32 := Scalar.addi c0_i32_57 v89
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_58 : BitVec 32 := 4#32
  let v91 : BitVec 32 := Scalar.muli v10 c4_i32_58
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v93 : BitVec 32 := Scalar.muli v8 c1_i32_59
  let v94 : BitVec 32 := Scalar.addi v92 v93
  v94.toNat
def k0_dev6 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v111 : BitVec 32 := Scalar.muli v2 c8_i32_68
  let v112 : BitVec 32 := Scalar.addi c0_i32_69 v111
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_70 : BitVec 32 := 4#32
  let v113 : BitVec 32 := Scalar.muli v10 c4_i32_70
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v115 : BitVec 32 := Scalar.muli v8 c1_i32_71
  let v116 : BitVec 32 := Scalar.addi v114 v115
  v116.toNat
def k0_dev7 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v133 : BitVec 32 := Scalar.muli v2 c8_i32_80
  let v134 : BitVec 32 := Scalar.addi c0_i32_81 v133
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_82 : BitVec 32 := 4#32
  let v135 : BitVec 32 := Scalar.muli v10 c4_i32_82
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v137 : BitVec 32 := Scalar.muli v8 c1_i32_83
  let v138 : BitVec 32 := Scalar.addi v136 v137
  v138.toNat
def k0_off4 (d0 : Dev nD) : Fin 2 → Nat :=
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_25 v2
  let c2_i32_26 : BitVec 32 := 2#32
  let v42 : BitVec 32 := Scalar.muli v41 c2_i32_26
  let c512_i32_27 : BitVec 32 := 512#32
  let v43 : BitVec 32 := Scalar.muli v42 c512_i32_27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_28 : BitVec 32 := 512#32
  let v44 : BitVec 32 := Scalar.muli v9 c512_i32_28
  let v45 : BitVec 32 := Scalar.addi v43 v44
  let v145 : Index := Scalar.indexCast v45
  let c0_86 : Index := 0#32
  ![v145.toNat, 0]
def k0_off5 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v34 : BitVec 32 := Scalar.muli v5 c2048_i32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_25 v2
  let c2_i32_26 : BitVec 32 := 2#32
  let v42 : BitVec 32 := Scalar.muli v41 c2_i32_26
  let c512_i32_27 : BitVec 32 := 512#32
  let v43 : BitVec 32 := Scalar.muli v42 c512_i32_27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_28 : BitVec 32 := 512#32
  let v44 : BitVec 32 := Scalar.muli v9 c512_i32_28
  let v45 : BitVec 32 := Scalar.addi v43 v44
  let v148 : BitVec 32 := Scalar.addi v34 v45
  let v149 : Index := Scalar.indexCast v148
  let c0_87 : Index := 0#32
  ![v149.toNat, 0]
def k0_off6 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_29 : BitVec 32 := 2#32
  let v46 : BitVec 32 := Scalar.muli v2 c2_i32_29
  let c512_i32_30 : BitVec 32 := 512#32
  let v47 : BitVec 32 := Scalar.muli v46 c512_i32_30
  let c1_i32_31 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v48 : BitVec 32 := Scalar.subi c1_i32_31 v9
  let c512_i32_32 : BitVec 32 := 512#32
  let v49 : BitVec 32 := Scalar.muli v48 c512_i32_32
  let v50 : BitVec 32 := Scalar.addi v47 v49
  let v151 : Index := Scalar.indexCast v50
  let c0_88 : Index := 0#32
  ![v151.toNat, 0]
def k0_off7 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v34 : BitVec 32 := Scalar.muli v5 c2048_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_29 : BitVec 32 := 2#32
  let v46 : BitVec 32 := Scalar.muli v2 c2_i32_29
  let c512_i32_30 : BitVec 32 := 512#32
  let v47 : BitVec 32 := Scalar.muli v46 c512_i32_30
  let c1_i32_31 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v48 : BitVec 32 := Scalar.subi c1_i32_31 v9
  let c512_i32_32 : BitVec 32 := 512#32
  let v49 : BitVec 32 := Scalar.muli v48 c512_i32_32
  let v50 : BitVec 32 := Scalar.addi v47 v49
  let v154 : BitVec 32 := Scalar.addi v34 v50
  let v155 : Index := Scalar.indexCast v154
  let c0_89 : Index := 0#32
  ![v155.toNat, 0]
def k0_off8 (d0 : Dev nD) : Fin 2 → Nat :=
  let c1_i32_33 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v51 : BitVec 32 := Scalar.subi c1_i32_33 v2
  let c2_i32_34 : BitVec 32 := 2#32
  let v52 : BitVec 32 := Scalar.muli v51 c2_i32_34
  let c512_i32_35 : BitVec 32 := 512#32
  let v53 : BitVec 32 := Scalar.muli v52 c512_i32_35
  let c1_i32_36 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v54 : BitVec 32 := Scalar.subi c1_i32_36 v9
  let c512_i32_37 : BitVec 32 := 512#32
  let v55 : BitVec 32 := Scalar.muli v54 c512_i32_37
  let v56 : BitVec 32 := Scalar.addi v53 v55
  let v157 : Index := Scalar.indexCast v56
  let c0_90 : Index := 0#32
  ![v157.toNat, 0]
def k0_off9 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v34 : BitVec 32 := Scalar.muli v5 c2048_i32
  let c1_i32_33 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v51 : BitVec 32 := Scalar.subi c1_i32_33 v2
  let c2_i32_34 : BitVec 32 := 2#32
  let v52 : BitVec 32 := Scalar.muli v51 c2_i32_34
  let c512_i32_35 : BitVec 32 := 512#32
  let v53 : BitVec 32 := Scalar.muli v52 c512_i32_35
  let c1_i32_36 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v54 : BitVec 32 := Scalar.subi c1_i32_36 v9
  let c512_i32_37 : BitVec 32 := 512#32
  let v55 : BitVec 32 := Scalar.muli v54 c512_i32_37
  let v56 : BitVec 32 := Scalar.addi v53 v55
  let v160 : BitVec 32 := Scalar.addi v34 v56
  let v161 : Index := Scalar.indexCast v160
  let c0_91 : Index := 0#32
  ![v161.toNat, 0]
def k0_off10 (d0 : Dev nD) (c0_i32_100 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c2048_i32_22 : BitVec 32 := 2048#32
  let v36 : BitVec 32 := Scalar.muli v35 c2048_i32_22
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_23 : BitVec 32 := 2#32
  let v37 : BitVec 32 := Scalar.muli v2 c2_i32_23
  let c512_i32 : BitVec 32 := 512#32
  let v38 : BitVec 32 := Scalar.muli v37 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_24 : BitVec 32 := 512#32
  let v39 : BitVec 32 := Scalar.muli v9 c512_i32_24
  let v40 : BitVec 32 := Scalar.addi v38 v39
  let v173 : BitVec 32 := Scalar.addi v36 v40
  let v174 : BitVec 32 := Scalar.addi v173 c0_i32_100
  let c0_i32_107 : BitVec 32 := 0#32
  ![v174.toNat, 0]
def k0_dev8 (d0 : Dev nD) : Nat :=
  let c0_i32_104 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_103 : BitVec 32 := 8#32
  let v175 : BitVec 32 := Scalar.muli v11 c8_i32_103
  let v176 : BitVec 32 := Scalar.addi c0_i32_104 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v177 : BitVec 32 := Scalar.muli v5 c4_i32_105
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v179 : BitVec 32 := Scalar.muli v8 c1_i32_106
  let v180 : BitVec 32 := Scalar.addi v178 v179
  v180.toNat
def k0_dev9 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v187 : BitVec 32 := Scalar.muli v2 c8_i32_111
  let v188 : BitVec 32 := Scalar.addi c0_i32_112 v187
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_113 : BitVec 32 := 4#32
  let v189 : BitVec 32 := Scalar.muli v5 c4_i32_113
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_114 : BitVec 32 := 1#32
  let v191 : BitVec 32 := Scalar.muli v14 c1_i32_114
  let v192 : BitVec 32 := Scalar.addi v190 v191
  v192.toNat
def k0_dev10 (d0 : Dev nD) : Nat :=
  let c0_i32_129 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_128 : BitVec 32 := 8#32
  let v211 : BitVec 32 := Scalar.muli v11 c8_i32_128
  let v212 : BitVec 32 := Scalar.addi c0_i32_129 v211
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_130 : BitVec 32 := 4#32
  let v213 : BitVec 32 := Scalar.muli v5 c4_i32_130
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v215 : BitVec 32 := Scalar.muli v8 c1_i32_131
  let v216 : BitVec 32 := Scalar.addi v214 v215
  v216.toNat
def k0_dev11 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v223 : BitVec 32 := Scalar.muli v2 c8_i32_136
  let v224 : BitVec 32 := Scalar.addi c0_i32_137 v223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_138 : BitVec 32 := 4#32
  let v225 : BitVec 32 := Scalar.muli v5 c4_i32_138
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_139 : BitVec 32 := 1#32
  let v227 : BitVec 32 := Scalar.muli v14 c1_i32_139
  let v228 : BitVec 32 := Scalar.addi v226 v227
  v228.toNat
def k0_dev12 (d0 : Dev nD) : Nat :=
  let c0_i32_154 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_153 : BitVec 32 := 8#32
  let v247 : BitVec 32 := Scalar.muli v11 c8_i32_153
  let v248 : BitVec 32 := Scalar.addi c0_i32_154 v247
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_155 : BitVec 32 := 4#32
  let v249 : BitVec 32 := Scalar.muli v5 c4_i32_155
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v251 : BitVec 32 := Scalar.muli v8 c1_i32_156
  let v252 : BitVec 32 := Scalar.addi v250 v251
  v252.toNat
def k0_dev13 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v259 : BitVec 32 := Scalar.muli v2 c8_i32_161
  let v260 : BitVec 32 := Scalar.addi c0_i32_162 v259
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_163 : BitVec 32 := 4#32
  let v261 : BitVec 32 := Scalar.muli v5 c4_i32_163
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_164 : BitVec 32 := 1#32
  let v263 : BitVec 32 := Scalar.muli v14 c1_i32_164
  let v264 : BitVec 32 := Scalar.addi v262 v263
  v264.toNat
def k0_dev14 (d0 : Dev nD) : Nat :=
  let c0_i32_179 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_178 : BitVec 32 := 8#32
  let v283 : BitVec 32 := Scalar.muli v11 c8_i32_178
  let v284 : BitVec 32 := Scalar.addi c0_i32_179 v283
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_180 : BitVec 32 := 4#32
  let v285 : BitVec 32 := Scalar.muli v5 c4_i32_180
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v287 : BitVec 32 := Scalar.muli v8 c1_i32_181
  let v288 : BitVec 32 := Scalar.addi v286 v287
  v288.toNat
def k0_dev15 (d0 : Dev nD) : Nat :=
  let c0_i32_187 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_186 : BitVec 32 := 8#32
  let v295 : BitVec 32 := Scalar.muli v2 c8_i32_186
  let v296 : BitVec 32 := Scalar.addi c0_i32_187 v295
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v297 : BitVec 32 := Scalar.muli v5 c4_i32_188
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_189 : BitVec 32 := 1#32
  let v299 : BitVec 32 := Scalar.muli v14 c1_i32_189
  let v300 : BitVec 32 := Scalar.addi v298 v299
  v300.toNat
def k0_off11 (d0 : Dev nD) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c2048_i32_22 : BitVec 32 := 2048#32
  let v36 : BitVec 32 := Scalar.muli v35 c2048_i32_22
  let c0_i32_198 : BitVec 32 := 0#32
  ![v36.toNat, 0]
def k0_off12 (d0 : Dev nD) (c0_i32_200 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c2048_i32_22 : BitVec 32 := 2048#32
  let v36 : BitVec 32 := Scalar.muli v35 c2048_i32_22
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_29 : BitVec 32 := 2#32
  let v46 : BitVec 32 := Scalar.muli v2 c2_i32_29
  let c512_i32_30 : BitVec 32 := 512#32
  let v47 : BitVec 32 := Scalar.muli v46 c512_i32_30
  let c1_i32_31 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v48 : BitVec 32 := Scalar.subi c1_i32_31 v9
  let c512_i32_32 : BitVec 32 := 512#32
  let v49 : BitVec 32 := Scalar.muli v48 c512_i32_32
  let v50 : BitVec 32 := Scalar.addi v47 v49
  let v317 : BitVec 32 := Scalar.addi v36 v50
  let v318 : BitVec 32 := Scalar.addi v317 c0_i32_200
  let c0_i32_207 : BitVec 32 := 0#32
  ![v318.toNat, 0]
def k0_dev16 (d0 : Dev nD) : Nat :=
  let c0_i32_204 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_203 : BitVec 32 := 8#32
  let v319 : BitVec 32 := Scalar.muli v11 c8_i32_203
  let v320 : BitVec 32 := Scalar.addi c0_i32_204 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v321 : BitVec 32 := Scalar.muli v5 c4_i32_205
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v323 : BitVec 32 := Scalar.muli v8 c1_i32_206
  let v324 : BitVec 32 := Scalar.addi v322 v323
  v324.toNat
def k0_dev17 (d0 : Dev nD) : Nat :=
  let c0_i32_221 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_220 : BitVec 32 := 8#32
  let v343 : BitVec 32 := Scalar.muli v11 c8_i32_220
  let v344 : BitVec 32 := Scalar.addi c0_i32_221 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_222 : BitVec 32 := 4#32
  let v345 : BitVec 32 := Scalar.muli v5 c4_i32_222
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v347 : BitVec 32 := Scalar.muli v8 c1_i32_223
  let v348 : BitVec 32 := Scalar.addi v346 v347
  v348.toNat
def k0_off13 (d0 : Dev nD) (c256_i32_234 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c2048_i32_22 : BitVec 32 := 2048#32
  let v36 : BitVec 32 := Scalar.muli v35 c2048_i32_22
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_25 v2
  let c2_i32_26 : BitVec 32 := 2#32
  let v42 : BitVec 32 := Scalar.muli v41 c2_i32_26
  let c512_i32_27 : BitVec 32 := 512#32
  let v43 : BitVec 32 := Scalar.muli v42 c512_i32_27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_28 : BitVec 32 := 512#32
  let v44 : BitVec 32 := Scalar.muli v9 c512_i32_28
  let v45 : BitVec 32 := Scalar.addi v43 v44
  let v365 : BitVec 32 := Scalar.addi v36 v45
  let v366 : BitVec 32 := Scalar.addi v365 c256_i32_234
  let c0_i32_241 : BitVec 32 := 0#32
  ![v366.toNat, 0]
def k0_dev18 (d0 : Dev nD) : Nat :=
  let c0_i32_238 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_237 : BitVec 32 := 8#32
  let v367 : BitVec 32 := Scalar.muli v2 c8_i32_237
  let v368 : BitVec 32 := Scalar.addi c0_i32_238 v367
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v369 : BitVec 32 := Scalar.muli v5 c4_i32_239
  let v370 : BitVec 32 := Scalar.addi v368 v369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_240 : BitVec 32 := 1#32
  let v371 : BitVec 32 := Scalar.muli v14 c1_i32_240
  let v372 : BitVec 32 := Scalar.addi v370 v371
  v372.toNat
def k0_dev19 (d0 : Dev nD) : Nat :=
  let c0_i32_255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_254 : BitVec 32 := 8#32
  let v391 : BitVec 32 := Scalar.muli v2 c8_i32_254
  let v392 : BitVec 32 := Scalar.addi c0_i32_255 v391
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_256 : BitVec 32 := 4#32
  let v393 : BitVec 32 := Scalar.muli v5 c4_i32_256
  let v394 : BitVec 32 := Scalar.addi v392 v393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_257 : BitVec 32 := 1#32
  let v395 : BitVec 32 := Scalar.muli v14 c1_i32_257
  let v396 : BitVec 32 := Scalar.addi v394 v395
  v396.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ideal.Mesh.lean ====
/-
The mesh of 16 devices, the 16 transfers of one device in program order, and the chunks of 128 rows they move.
Everything here is a table over the mesh; the facts about the tables are decided.
-/
module

public import proofs.«01_k».proof.Proof.Gen.KernelIdeal
public import Idealize.ShloMosaic.Lib.Pipeline.Launch
public import Idealize.ShloMosaic.Lib.Tactic

@[expose] public section

namespace Cert.KernelIdeal.Gather

open Cert.KernelIdeal Cert.KernelIdeal.Gen
open Idealize.ShloMosaic

/-! ## Neighbours -/

/-- The bit of a device's number the direction `d` flips: y, x, z in this order. -/
def flip : Fin 3 → ℕ := ![4, 8, 1]

set_option backward.proofsInPublic true in
/-- The neighbour of `c` in direction `d` (0: y, 1: x, 2: z). -/
def nbr (d : Fin 3) (c : Dev nD) : Dev nD := ⟨(c.val ^^^ flip d) % 16, Nat.mod_lt _ (by decide)⟩

/-- Each direction is an involution of the mesh. -/
theorem nbr_nbr : ∀ (d : Fin 3) (c : Dev nD), nbr d (nbr d c) = c := by decide +kernel

/-- The direction as a permutation of the mesh. -/
def nbrEquiv (d : Fin 3) : Dev nD ≃ Dev nD := ⟨nbr d, nbr d, nbr_nbr d, nbr_nbr d⟩

/-- A device is a neighbour's neighbour: the two ways to say that `e` and `c` are neighbours agree. -/
theorem eq_nbr_iff (d : Fin 3) (c e : Dev nD) : nbr d e = c ↔ e = nbr d c :=
  ⟨fun h => by rw [← h, nbr_nbr], fun h => by rw [h, nbr_nbr]⟩

/-! ## Transfers -/

/-- The direction of transfer `n`: four over y, then x and z alternating four times, two over x, two over z. -/
def dir : Fin 16 → Fin 3 := ![0, 0, 0, 0, 1, 2, 1, 2, 1, 2, 1, 2, 1, 1, 2, 2]

/-- The number of transfer `n`'s send semaphore, on the sender. -/
def sIx : Fin 16 → Fin 34 := ![2, 3, 4, 5, 10, 18, 11, 19, 12, 20, 13, 21, 26, 27, 30, 31]

/-- The number of transfer `n`'s receive semaphore, on the receiver. -/
def rIx : Fin 16 → Fin 34 := ![6, 7, 8, 9, 14, 22, 15, 23, 16, 24, 17, 25, 28, 29, 32, 33]

/-- The chunk transfer `n` moves, numbered relative to its sender. -/
def role : Fin 16 → Fin 32 := ![0, 1, 2, 3, 16, 16, 17, 17, 18, 18, 19, 19, 20, 21, 26, 27]

set_option backward.proofsInPublic true in
/-- The absolute number of the chunk that device `c` numbers `r`: the top bit is the half (0: its own), the next two
    the quarter's x and z relative to the device's, the last two the place in the quarter. -/
def chk (c : Dev nD) (r : Fin 32) : Fin 32 :=
  ⟨(r.val ^^^ (16 * ((c.val / 4) % 2) + 8 * (c.val / 8) + 4 * (c.val % 2))) % 32, Nat.mod_lt _ (by decide)⟩

/-- The chunk transfer `n` of device `c` moves. -/
def snd (c : Dev nD) (n : Fin 16) : Fin 32 := chk c (role n)

/-- The chunk that arrives on device `c` by transfer `n` of its neighbour. -/
def lnd (c : Dev nD) (n : Fin 16) : Fin 32 := snd (nbr (dir n) c) n

/-- On the neighbour, the chunk arriving by transfer `n` is the one sent. -/
theorem lnd_nbr (c : Dev nD) (n : Fin 16) : lnd (nbr (dir n) c) n = snd c n := by unfold lnd; rw [nbr_nbr]

/-- The pieces of a device's result: the 16 chunks arriving, the four chunks of its own block it sends over y. -/
def pc (c : Dev nD) (p : Fin 16 ⊕ Fin 4) : Fin 32 :=
  match p with
  | .inl n => lnd c n
  | .inr j => chk c ⟨j.val, Nat.lt_of_lt_of_le j.isLt (by decide)⟩

/-- The pieces are different chunks. -/
theorem pc_injective : ∀ c : Dev nD, Function.Injective (pc c) := by decide +kernel

/-- What is no piece is in one of the three quarters of the device's own block that it does not send. -/
theorem rest_cases : ∀ (c : Dev nD) (a : Fin 32), (∀ p, pc c p ≠ a) → ∃ k : Fin 4, k ≠ 0 ∧ a.val / 4 = (chk c ⟨4 * k.val, by omega⟩).val / 4 := by
  decide +kernel

/-- No piece is in one of those three quarters. -/
theorem pc_not_quarter : ∀ (c : Dev nD) (k : Fin 4), k ≠ 0 → ∀ p, (pc c p).val / 4 ≠ (chk c ⟨4 * k.val, by omega⟩).val / 4 := by
  decide +kernel

/-- A chunk sent by a transfer over x or z has arrived, by the transfer listed: by a y transfer for the first stage,
    by a z or an x transfer for the second. -/
def via : Fin 16 → Fin 16 := ![0, 1, 2, 3, 0, 0, 1, 1, 2, 2, 3, 3, 5, 7, 8, 10]

/-- The chunk transfer `n` moves, from the fifth transfer on, is the one that arrived by `via n`. -/
theorem snd_via : ∀ (c : Dev nD) (n : Fin 16), 4 ≤ n.val → snd c n = lnd c (via n) := by decide +kernel

/-- The device whose argument fills chunk `a` of device `c`'s result: `c` itself for its own half, else the device of
    the other half at the chunk's x and z, in the same pair of z as `c`. -/
def srcDev (c : Dev nD) (a : Fin 32) : Dev nD :=
  if a.val / 16 = (c.val / 4) % 2 then c
  else ⟨(8 * ((a.val / 8) % 2) + 4 * ((a.val / 16) % 2) + 2 * ((c.val % 4) / 2) + (a.val / 4) % 2) % 16, Nat.mod_lt _ (by decide)⟩

/-- Sender and receiver of a transfer fill the chunk moved from the same device. -/
theorem srcDev_snd : ∀ (c : Dev nD) (n : Fin 16), srcDev (nbr (dir n) c) (snd c n) = srcDev c (snd c n) := by decide +kernel

/-- A chunk of the device's own half is filled from its own argument. -/
theorem srcDev_own : ∀ (c : Dev nD) (r : Fin 32), r.val < 16 → srcDev c (chk c r) = c := by decide +kernel

/-- The device a chunk is filled from is in the chunk's half. -/
theorem srcDev_half : ∀ (c : Dev nD) (a : Fin 32), ((srcDev c a).val / 4) % 2 = a.val / 16 := by decide +kernel

/-! ## The program's device numbers and offsets -/

/-- The row offset of chunk `a`. -/
def rowOff (a : Fin 32) : Fin 2 → ℕ := ![128 * a.val, 0]

theorem dev_y (c : Dev nD) : (⟨k0_dev1 c, k0_dev1_lt c⟩ : Dev nD) = nbr 0 c := by revert c; decide +kernel
theorem dev_x (c : Dev nD) : (⟨k0_dev2 c, k0_dev2_lt c⟩ : Dev nD) = nbr 1 c := by revert c; decide +kernel
theorem dev_z (c : Dev nD) : (⟨k0_dev3 c, k0_dev3_lt c⟩ : Dev nD) = nbr 2 c := by revert c; decide +kernel
theorem dev_0 (c : Dev nD) : (⟨k0_dev4 c, k0_dev4_lt c⟩ : Dev nD) = nbr (dir 0) c := by revert c; decide +kernel
theorem dev_1 (c : Dev nD) : (⟨k0_dev5 c, k0_dev5_lt c⟩ : Dev nD) = nbr (dir 1) c := by revert c; decide +kernel
theorem dev_2 (c : Dev nD) : (⟨k0_dev6 c, k0_dev6_lt c⟩ : Dev nD) = nbr (dir 2) c := by revert c; decide +kernel
theorem dev_3 (c : Dev nD) : (⟨k0_dev7 c, k0_dev7_lt c⟩ : Dev nD) = nbr (dir 3) c := by revert c; decide +kernel
theorem dev_4 (c : Dev nD) : (⟨k0_dev8 c, k0_dev8_lt c⟩ : Dev nD) = nbr (dir 4) c := by revert c; decide +kernel
theorem dev_5 (c : Dev nD) : (⟨k0_dev9 c, k0_dev9_lt c⟩ : Dev nD) = nbr (dir 5) c := by revert c; decide +kernel
theorem dev_6 (c : Dev nD) : (⟨k0_dev10 c, k0_dev10_lt c⟩ : Dev nD) = nbr (dir 6) c := by revert c; decide +kernel
theorem dev_7 (c : Dev nD) : (⟨k0_dev11 c, k0_dev11_lt c⟩ : Dev nD) = nbr (dir 7) c := by revert c; decide +kernel
theorem dev_8 (c : Dev nD) : (⟨k0_dev12 c, k0_dev12_lt c⟩ : Dev nD) = nbr (dir 8) c := by revert c; decide +kernel
theorem dev_9 (c : Dev nD) : (⟨k0_dev13 c, k0_dev13_lt c⟩ : Dev nD) = nbr (dir 9) c := by revert c; decide +kernel
theorem dev_10 (c : Dev nD) : (⟨k0_dev14 c, k0_dev14_lt c⟩ : Dev nD) = nbr (dir 10) c := by revert c; decide +kernel
theorem dev_11 (c : Dev nD) : (⟨k0_dev15 c, k0_dev15_lt c⟩ : Dev nD) = nbr (dir 11) c := by revert c; decide +kernel
theorem dev_12 (c : Dev nD) : (⟨k0_dev16 c, k0_dev16_lt c⟩ : Dev nD) = nbr (dir 12) c := by revert c; decide +kernel
theorem dev_13 (c : Dev nD) : (⟨k0_dev17 c, k0_dev17_lt c⟩ : Dev nD) = nbr (dir 13) c := by revert c; decide +kernel
theorem dev_14 (c : Dev nD) : (⟨k0_dev18 c, k0_dev18_lt c⟩ : Dev nD) = nbr (dir 14) c := by revert c; decide +kernel
theorem dev_15 (c : Dev nD) : (⟨k0_dev19 c, k0_dev19_lt c⟩ : Dev nD) = nbr (dir 15) c := by revert c; decide +kernel

/-- The rows of the argument that device `c` loads for its chunk `j`; -/
theorem off_ld (c : Dev nD) (j : Fin 4) : k0_off1 c (BitVec.ofNat 32 (128 * j.val)) = ![128 * ((chk c ⟨j.val, by omega⟩).val % 16), 0] := by
  revert c j; decide +kernel
/-- the rows of its result it stores them to; -/
theorem off_st (c : Dev nD) (j : Fin 4) : k0_off2 c (BitVec.ofNat 32 (128 * j.val)) = rowOff (chk c ⟨j.val, by omega⟩) := by
  revert c j; decide +kernel
/-- the rows it sends over y; -/
theorem off_y (c : Dev nD) (j : Fin 4) : k0_off3 c (BitVec.ofNat 32 (128 * j.val)) = rowOff (snd c ⟨j.val, by omega⟩) := by
  revert c j; decide +kernel
/-- the rows it sends on over x and over z; -/
theorem off_ax (c : Dev nD) (j : Fin 4) : k0_off10 c (BitVec.ofNat 32 (128 * j.val)) = rowOff (snd c ⟨4 + 2 * j.val, by omega⟩) := by
  revert c j; decide +kernel
theorem off_az (c : Dev nD) (j : Fin 4) : k0_off10 c (BitVec.ofNat 32 (128 * j.val)) = rowOff (snd c ⟨5 + 2 * j.val, by omega⟩) := by
  revert c j; decide +kernel
/-- and the rows of the second stage. -/
theorem off_bx (c : Dev nD) (j : Fin 2) : k0_off12 c (BitVec.ofNat 32 (128 * j.val)) = rowOff (snd c ⟨12 + j.val, by omega⟩) := by
  revert c j; decide +kernel
theorem off_bz (c : Dev nD) (j : Fin 2) : k0_off13 c (BitVec.ofNat 32 (256 + 128 * j.val)) = rowOff (snd c ⟨14 + j.val, by omega⟩) := by
  revert c j; decide +kernel

/-- The quarters of its own block stored whole: where they are loaded from and stored to. -/
theorem off_q1 (c : Dev nD) : k0_off6 c = ![128 * ((chk c 4).val % 16), 0] ∧ k0_off7 c = rowOff (chk c 4) := by revert c; decide +kernel
theorem off_q2 (c : Dev nD) : k0_off4 c = ![128 * ((chk c 8).val % 16), 0] ∧ k0_off5 c = rowOff (chk c 8) := by revert c; decide +kernel
theorem off_q3 (c : Dev nD) : k0_off8 c = ![128 * ((chk c 12).val % 16), 0] ∧ k0_off9 c = rowOff (chk c 12) := by revert c; decide +kernel

end Cert.KernelIdeal.Gather
-- ==== Proof.Ideal.Chunks.lean ====
/-
The result buffer of a device as chunks of 128 rows: the rows of a chunk, the contents the buffer is to hold, what a
copy of a chunk and a store of some rows leave there, and the buffer split into the pieces the transfers move.
-/
module

public import proofs.«01_k».proof.Proof.Ideal.Mesh
public import proofs.«01_k».proof.Proof.Gen.KernelIdeal.Skeleton
public import Idealize.ShloMosaic.Lib.Pipeline.Kit

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the kernel's own, duties named by a direction -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The two staging buffers -/

abbrev xM : Memref sig .tc .vmem S2048x512 .bf16 := Memref.whole cc0_stg0_0
abbrev oM : Memref sig .tc .vmem S4096x512 .bf16 := Memref.whole cc0_stg1_0

/-- Contents of the argument's buffer, and of the result's. -/
abbrev XC (F : FTy → Type) [FloatOps F] : Type := (cc0_stg0_0 : Ref sig .tc).ty.Contents (Elt F)
abbrev OC (F : FTy → Type) [FloatOps F] : Type := (cc0_stg1_0 : Ref sig .tc).ty.Contents (Elt F)

/-- Elements of the result's buffer on device `c` at a share. -/
def pt (c : Dev nD) (S : Finset S4096x512.Idx) (q : PosShare TreeShare) (f : OC F) : sProp 𝕄 :=
  ((c : Thread nD τ).loc cc0_stg1_0) ↦[S]{q} f

instance pt_storable (c : Dev nD) (S : Finset S4096x512.Idx) (q : PosShare TreeShare) (f : OC F) :
    BI.Storable (upEmb : UEmb _ 𝕄) (pt c S q f) := by unfold pt; infer_instance

/-- Contents matter on the elements held only. -/
theorem pt_congr {c : Dev nD} {S : Finset S4096x512.Idx} {q : PosShare TreeShare} {f g : OC F} (h : ∀ i ∈ S, f i = g i) :
    pt c S q f = pt c S q g := pointsTo_congr h

/-- Elements of a buffer, cut in two. -/
theorem pt_cut {c : Dev nD} {S T : Finset S4096x512.Idx} {q : PosShare TreeShare} {f : OC F} (h : T ⊆ S) :
    pt c S q f = iprop(pt c T q f ∗ pt c (S \ T) q f) :=
  BI.equiv_iff.mp ⟨(pointsTo_split_subset h).1, (pointsTo_split_subset h).2⟩

/-- A share, cut in its two halves. -/
theorem pt_halves {c : Dev nD} {S : Finset S4096x512.Idx} {f : OC F} :
    pt c S fullShare f = iprop(pt c S fullShare.left f ∗ pt c S fullShare.right f) :=
  BI.equiv_iff.mp ⟨(pointsTo_share (PosShare.mem_left_op_right fullShare)).1, (pointsTo_share (PosShare.mem_left_op_right fullShare)).2⟩

/-! ## The rows of a chunk -/

/-- The elements of chunk `a`: rows `128 a` to `128 a + 127`. -/
def rows (a : Fin 32) : Finset S4096x512.Idx := Finset.univ.filter fun i => (i (0 : Fin 2)).val / 128 = a.val

theorem mem_rows {a : Fin 32} {i : S4096x512.Idx} : i ∈ rows a ↔ (i (0 : Fin 2)).val / 128 = a.val := by
  unfold rows; rw [Finset.mem_filter]; exact and_iff_right (Finset.mem_univ i)

theorem rows_disjoint {a b : Fin 32} (h : a ≠ b) : Disjoint (rows a) (rows b) := by
  rw [Finset.disjoint_left]
  intro i hi hj
  exact h (Fin.ext ((mem_rows.mp hi).symm.trans (mem_rows.mp hj)))

/-- The chunk a row is in. -/
def chunkOf (i : S4096x512.Idx) : Fin 32 := ⟨(i (0 : Fin 2)).val / 128, by
  have h : (i (0 : Fin 2)).val < 4096 := (i (0 : Fin 2)).isLt
  omega⟩

theorem mem_rows_chunkOf (i : S4096x512.Idx) : i ∈ rows (chunkOf i) := mem_rows.mpr rfl

/-- Membership in a block of rows of the result's buffer. -/
theorem mem_block {off size : Fin 2 → ℕ} {inb : ∀ a, off a + size a ≤ S4096x512.size a} {o h : ℕ} (ho : off = ![o, 0])
    (h0 : size 0 = h) (h1 : size 1 = 512) {i : S4096x512.Idx} :
    i ∈ (Rect.unit (s := S4096x512) off size inb).set ↔ o ≤ (i (0 : Fin 2)).val ∧ (i (0 : Fin 2)).val < o + h := by
  subst ho
  rw [Rect.mem_set_unit, Fin.forall_fin_two]
  have hi : (i (1 : Fin 2)).val < 512 := (i (1 : Fin 2)).isLt
  show (o ≤ (i (0 : Fin 2)).val ∧ (i (0 : Fin 2)).val < o + size 0) ∧ (0 ≤ (i (1 : Fin 2)).val ∧ (i (1 : Fin 2)).val < 0 + size 1) ↔ _
  rw [h0, h1]
  omega

/-- The rectangle of 128 rows at chunk `a`'s offset is chunk `a`. -/
theorem block_rows {off : Fin 2 → ℕ} {inb : ∀ a, off a + S128x512.size a ≤ S4096x512.size a} {a : Fin 32} (ho : off = rowOff a) :
    (Rect.unit (s := S4096x512) off S128x512.size inb).set = rows a := by
  ext i
  rw [mem_block (o := 128 * a.val) (h := 128) ho rfl rfl, mem_rows]
  omega

/-! ## Contents -/

/-- The argument's block as its staging buffer on device `c` holds it. -/
def xstg (c : Dev nD) : XC F :=
  (win0_0.blk (0 : Fin 1)).view.read (Elt F) (m ((c : Thread nD τ).loc main_arg0))

set_option backward.proofsInPublic true in
/-- The row of a device's argument that fills a row of the result, in the same column. -/
def down (i : S4096x512.Idx) : S2048x512.Idx :=
  Fin.cons (⟨(i (0 : Fin 2)).val % 2048, Nat.mod_lt _ (by decide)⟩ : Fin 2048) (Fin.cons (i (1 : Fin 2) : Fin 512) fun a => a.elim0)

/-- What device `c`'s result is to hold: each chunk filled from the device the table names. -/
def full (c : Dev nD) : OC F := fun i => xstg m (srcDev c (chunkOf i)) (down i)

/-- Sender and receiver of a transfer are to hold the same on the chunk moved. -/
theorem full_nbr (c : Dev nD) (n : Fin 16) {i : S4096x512.Idx} (hi : i ∈ rows (snd c n)) :
    full m (nbr (dir n) c) i = full m c i := by
  have h : chunkOf i = snd c n := Fin.ext (mem_rows.mp hi)
  unfold full
  rw [h, srcDev_snd]

/-! ## What a copy and a store leave -/

/-- A copy of a view onto the same view of another device's buffer leaves there, under the view, what the source held. -/
theorem copied (v : View sig .tc .vmem S128x512 .bf16) (fd fs : v.ty.Contents (Elt F)) {i : v.ty.Idx} (hi : i ∈ v.set) :
    v.write (Elt F) fd (v.read (Elt F) fs) Finset.univ i = fs i := by
  obtain ⟨x, -, rfl⟩ := Finset.mem_map.mp hi
  rw [View.write_emb_of_mem _ _ (Finset.mem_univ x), View.read_apply, cast_cast, cast_eq]

/-- Off the rows stored the buffer is as it was. -/
theorem store_off {r : Rect S4096x512} {f : OC F} {w : r.shape.Idx → Elt F .bf16} {i : S4096x512.Idx} (hi : i ∉ r.set) :
    (oM.access r).write (Elt F) f w Finset.univ i = f i := by
  refine View.write_of_not_mem (v := oM.access r) f w Finset.univ ?_
  rw [View.setOn_univ]
  show i ∉ ((View.whole cc0_stg1_0).slice r).set
  rw [View.set_slice_whole]
  exact hi

/-- On the rows stored, a store of what a load of the argument read leaves the argument's rows: the stored block starts
    at row `b`, the loaded one at row `b % 2048` of the argument. -/
theorem store_on {h : ℕ} {size : Fin 2 → ℕ} (h0 : size 0 = h) (h1 : size 1 = 512) {b b' : ℕ} {off off' : Fin 2 → ℕ}
    {inb : ∀ a, off a + size a ≤ S4096x512.size a} {inb' : ∀ a, off' a + size a ≤ S2048x512.size a}
    (ho : off = ![b, 0]) (ho' : off' = ![b', 0]) (hb : b' = b % 2048) {f : OC F} {x : XC F}
    {i : S4096x512.Idx} (hi : i ∈ (Rect.unit (s := S4096x512) off size inb).set) :
    (oM.access (Rect.unit (s := S4096x512) off size inb)).write (Elt F) f
        (xM.view.readAt (Elt F) (Rect.unit (s := S2048x512) off' size inb').toLoadRect x) Finset.univ i = x (down i) := by
  have hr := (mem_block (o := b) (h := h) ho h0 h1).mp hi
  have hi' : i ∈ ((View.whole cc0_stg1_0).slice (Rect.unit (s := S4096x512) off size inb)).set := by
    rw [View.set_slice_whole]; exact hi
  obtain ⟨y, -, hy⟩ := Finset.mem_map.mp hi'
  rw [← hy]
  show ((View.whole cc0_stg1_0).slice (Rect.unit (s := S4096x512) off size inb)).write (Elt F) f _ Finset.univ _ = _
  rw [View.write_emb_of_mem _ _ (Finset.mem_univ y)]
  show x ((Rect.unit (s := S2048x512) off' size inb').emb y) = x (down (((View.whole cc0_stg1_0).slice (Rect.unit (s := S4096x512) off size inb)).emb y))
  have hle : b' + h ≤ 2048 := by
    have := inb' 0
    subst ho'; subst h0
    exact this
  congr 1
  subst ho; subst ho'
  have e0 : (i (0 : Fin 2)).val = b + 1 * (y (0 : Fin 2)).val := by rw [← hy]; rfl
  have e1 : (i (1 : Fin 2)).val = 0 + 1 * (y (1 : Fin 2)).val := by rw [← hy]; rfl
  rw [hy]
  funext a
  refine Fin.ext ?_
  fin_cases a
  · show b' + 1 * (y (0 : Fin 2)).val = (i (0 : Fin 2)).val % 2048
    omega
  · show 0 + 1 * (y (1 : Fin 2)).val = (i (1 : Fin 2)).val
    omega

/-! ## A device's own half -/

/-- The chunks a device numbers below 16 are its own half. -/
theorem chk_half : ∀ (c : Dev nD) (r : Fin 32), r.val < 16 → (chk c r).val / 16 = (c.val / 4) % 2 := by decide +kernel

/-- A quarter starts at a multiple of four chunks. -/
theorem chk_quarter : ∀ (c : Dev nD) (k : Fin 4), (chk c ⟨4 * k.val, by omega⟩).val % 4 = 0 := by decide +kernel

/-- In its own half a device's result is to hold its own argument. -/
theorem full_own (c : Dev nD) {i : S4096x512.Idx} (h : (i (0 : Fin 2)).val / 2048 = (c.val / 4) % 2) :
    full m c i = xstg m c (down i) := by
  have h' : (chunkOf i).val / 16 = (c.val / 4) % 2 := by
    show (i (0 : Fin 2)).val / 128 / 16 = _
    omega
  unfold full srcDev
  rw [if_pos h']

/-! ## The buffer in pieces -/

/-- The rows of no piece. -/
def restSet (c : Dev nD) : Finset S4096x512.Idx := Finset.univ \ Finset.univ.biUnion fun p => rows (pc c p)

/-- The result's buffer is the chunks that arrive, the four chunks sent over y, and the rest. -/
theorem pieces (c : Dev nD) (q : PosShare TreeShare) (f : OC F) :
    pt c Finset.univ q f
      = iprop(((bigSep Finset.univ fun n : Fin 16 => pt c (rows (lnd c n)) q f)
          ∗ bigSep Finset.univ fun j : Fin 4 => pt c (rows (chk c ⟨j.val, Nat.lt_of_lt_of_le j.isLt (by decide)⟩)) q f)
        ∗ pt c (restSet c) q f) := by
  rw [pt_cut (T := Finset.univ.biUnion fun p => rows (pc c p)) (Finset.subset_univ _)]
  congr 1
  have hd : ∀ p ∈ (Finset.univ : Finset (Fin 16 ⊕ Fin 4)), ∀ p' ∈ (Finset.univ : Finset (Fin 16 ⊕ Fin 4)), p ≠ p' →
      Disjoint (rows (pc c p)) (rows (pc c p')) := fun p _ p' _ hp => rows_disjoint fun e => hp (pc_injective c e)
  have h : pt c (Finset.univ.biUnion fun p => rows (pc c p)) q f = bigSep Finset.univ fun p => pt c (rows (pc c p)) q f := by
    unfold pt
    exact pointsTo_biUnion (ℓ := (c : Thread nD τ).loc cc0_stg1_0) Finset.univ (fun p => rows (pc c p)) hd
  rw [h, BI.bigSep_univ_sum]
  rfl

/-- The rows of the `k`-th quarter of a device's own half. -/
def InQuarter (c : Dev nD) (k : Fin 4) (i : S4096x512.Idx) : Prop :=
  (i (0 : Fin 2)).val / 512 = (chk c ⟨4 * k.val, by omega⟩).val / 4

/-- The rectangle of 512 rows at the `k`-th quarter's offset is that quarter. -/
theorem block_quarter {c : Dev nD} {k : Fin 4} {off : Fin 2 → ℕ} {inb : ∀ a, off a + S512x512.size a ≤ S4096x512.size a}
    (ho : off = rowOff (chk c ⟨4 * k.val, by omega⟩)) {i : S4096x512.Idx} :
    i ∈ (Rect.unit (s := S4096x512) off S512x512.size inb).set ↔ InQuarter c k i := by
  rw [mem_block (h := 512) ho rfl rfl]
  unfold InQuarter
  have := chk_quarter c k
  omega

/-- The quarters but the first lie in the rest. -/
theorem quarter_rest {c : Dev nD} {k : Fin 4} (hk : k ≠ 0) {i : S4096x512.Idx} (hi : InQuarter c k i) : i ∈ restSet c := by
  unfold restSet
  refine Finset.mem_sdiff.mpr ⟨Finset.mem_univ i, fun h => ?_⟩
  obtain ⟨p, -, hp⟩ := Finset.mem_biUnion.mp h
  have h1 := pc_not_quarter c k hk p
  have h2 := mem_rows.mp hp
  unfold InQuarter at hi
  omega

/-- The rest lies in those quarters. -/
theorem rest_quarter {c : Dev nD} {i : S4096x512.Idx} (hi : i ∈ restSet c) : ∃ k : Fin 4, k ≠ 0 ∧ InQuarter c k i := by
  unfold restSet at hi
  have h := (Finset.mem_sdiff.mp hi).2
  obtain ⟨k, hk, e⟩ := rest_cases c (chunkOf i) fun p hp =>
    h (Finset.mem_biUnion.mpr ⟨p, Finset.mem_univ p, by rw [hp]; exact mem_rows_chunkOf i⟩)
  refine ⟨k, hk, ?_⟩
  have e' : (i (0 : Fin 2)).val / 128 / 4 = (chk c ⟨4 * k.val, by omega⟩).val / 4 := e
  unfold InQuarter
  omega

/-- The rest of the buffer with the quarters in `T` filled. -/
def filled (c : Dev nD) (T : Finset (Fin 4)) : sProp 𝕄 :=
  iprop(∃ f : OC F, ⌜∀ i ∈ restSet c, ∀ k ∈ T, InQuarter c k i → f i = full m c i⌝ ∗ pt c (restSet c) fullShare f)

/-- All three quarters filled, the rest holds what it is to hold. -/
theorem filled_all (c : Dev nD) : filled m c {1, 2, 3} ⊢ pt c (restSet c) fullShare (full m c) := by
  unfold filled
  iintro ⟨%f, %h, H⟩
  have e : pt c (restSet c) fullShare f = pt c (restSet c) fullShare (full m c) := pt_congr fun i hi => by
    obtain ⟨k, hk, hq⟩ := rest_quarter hi
    exact h i hi k ((by decide : ∀ k : Fin 4, k ≠ 0 → k ∈ ({1, 2, 3} : Finset (Fin 4))) k hk) hq
  rw [← e]
  iexact H

/-- What a store of chunk `a` of its own half, loaded from its argument, leaves in the chunk. -/
theorem stored_chunk (c : Dev nD) {r : Fin 32} (hr : r.val < 16) {off off' : Fin 2 → ℕ}
    {inb : ∀ a, off a + S128x512.size a ≤ S4096x512.size a} {inb' : ∀ a, off' a + S128x512.size a ≤ S2048x512.size a}
    (ho : off = rowOff (chk c r)) (ho' : off' = ![128 * ((chk c r).val % 16), 0]) {f : OC F} :
    ∀ i ∈ rows (chk c r), (oM.access (Rect.unit (s := S4096x512) off S128x512.size inb)).write (Elt F) f
        (xM.view.readAt (Elt F) (Rect.unit (s := S2048x512) off' S128x512.size inb').toLoadRect (xstg m c)) Finset.univ i = full m c i := by
  intro i hi
  have h1 := mem_rows.mp hi
  have h2 := chk_half c r hr
  rw [full_own m c (by omega)]
  exact store_on (h := 128) rfl rfl ho ho' (by omega) (by rw [block_rows ho]; exact hi)

/-- What a store of a quarter of its own half, loaded from its argument, leaves in the rest. -/
theorem stored_quarter (c : Dev nD) (k : Fin 4) {off off' : Fin 2 → ℕ}
    {inb : ∀ a, off a + S512x512.size a ≤ S4096x512.size a} {inb' : ∀ a, off' a + S512x512.size a ≤ S2048x512.size a}
    (ho : off = rowOff (chk c ⟨4 * k.val, by omega⟩)) (ho' : off' = ![128 * ((chk c ⟨4 * k.val, by omega⟩).val % 16), 0]) {f : OC F}
    {T : Finset (Fin 4)} (h : ∀ i ∈ restSet c, ∀ k ∈ T, InQuarter c k i → f i = full m c i) :
    ∀ i ∈ restSet c, ∀ k' ∈ insert k T, InQuarter c k' i →
      (oM.access (Rect.unit (s := S4096x512) off S512x512.size inb)).write (Elt F) f
        (xM.view.readAt (Elt F) (Rect.unit (s := S2048x512) off' S512x512.size inb').toLoadRect (xstg m c)) Finset.univ i = full m c i := by
  intro i hi k' hk' hq
  by_cases hk : InQuarter c k i
  · have h2 := chk_half c ⟨4 * k.val, by omega⟩ (by show 4 * k.val < 16; omega)
    have h3 := hk
    unfold InQuarter at h3
    rw [full_own m c (by omega)]
    exact store_on (h := 512) rfl rfl ho ho' (by omega) ((block_quarter ho).mpr hk)
  · rw [store_off fun hm => hk ((block_quarter ho).mp hm)]
    rcases Finset.mem_insert.mp hk' with rfl | hT
    · exact absurd hq hk
    · exact h i hi k' hT hq

end Cert.KernelIdeal.Gather

end
-- ==== Proof.Ideal.Sched.lean ====
/-
The schedule of the handshakes: a device's barrier cell, a send and a receive cell per transfer, what passes over each,
what a device owes at each moment, and the order that lets it wait.
-/
module

public import proofs.«01_k».proof.Proof.Ideal.Chunks
public import Idealize.ShloMosaic.Lib.Pipeline.Launch

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells -/

/-- A device's cells: the barrier; the send cell and the receive cell of each transfer. -/
abbrev Cell : Type := Option (Bool × Fin 16)

/-- The semaphore of a cell. -/
def csem : Cell → SemLoc sig
  | none => .reg (SemArray.scalar (sig.barrier 0 rfl) : Sems sig S_).sem
  | some (false, n) => .dma (sIx n)
  | some (true, n) => .dma (rIx n)

/-- The cell of each DMA semaphore: none for the two staging semaphores. -/
def ofDma : Fin 34 → Option (Bool × Fin 16) :=
  ![none, none, some (false, 0), some (false, 1), some (false, 2), some (false, 3), some (true, 0), some (true, 1), some (true, 2),
    some (true, 3), some (false, 4), some (false, 6), some (false, 8), some (false, 10), some (true, 4), some (true, 6),
    some (true, 8), some (true, 10), some (false, 5), some (false, 7), some (false, 9), some (false, 11), some (true, 5),
    some (true, 7), some (true, 9), some (true, 11), some (false, 12), some (false, 13), some (true, 12), some (true, 13),
    some (false, 14), some (false, 15), some (true, 14), some (true, 15)]

theorem ofDma_sIx : ∀ n, ofDma (sIx n) = some (false, n) := by decide
theorem ofDma_rIx : ∀ n, ofDma (rIx n) = some (true, n) := by decide

/-- The cell a semaphore is, if it is one of the kernel's. -/
def kindOf : SemLoc sig → Option Cell
  | .reg _ => some none
  | .dma s => (ofDma s).map some

theorem kindOf_csem (k : Cell) : kindOf (csem k) = some k := by
  rcases k with _ | ⟨_ | _, n⟩
  · rfl
  · show (ofDma (sIx n)).map some = _; rw [ofDma_sIx]; rfl
  · show (ofDma (rIx n)).map some = _; rw [ofDma_rIx]; rfl

theorem csem_injective : Function.Injective csem := fun k k' h =>
  Option.some.inj ((kindOf_csem k).symm.trans ((congrArg kindOf h).trans (kindOf_csem k')))

abbrev cell (c : Dev nD) (k : Cell) : GSem nD τ sig := ((c : Thread nD τ), csem k)
abbrev bar (c : Dev nD) : GSem nD τ sig := cell c none
abbrev sd (c : Dev nD) (n : Fin 16) : GSem nD τ sig := cell c (some (false, n))
abbrev rv (c : Dev nD) (n : Fin 16) : GSem nD τ sig := cell c (some (true, n))

theorem cell_injective : Function.Injective fun ck : Dev nD × Cell => cell ck.1 ck.2 := by
  rintro ⟨c, k⟩ ⟨c', k'⟩ h
  have h1 : c = c' := congrArg (fun g : GSem nD τ sig => g.1.1) h
  have h2 : csem k = csem k' := congrArg Prod.snd h
  rw [h1, csem_injective h2]

/-- A chunk's credit. -/
abbrev N : ℕ := (oM.slice (Rect.unit (s := S4096x512) ![0, 0] S128x512.size (by decide)) (fun _ => rfl)).view.dmaCredit
theorem N_pos : 0 < N := View.dmaCredit_pos _ (by decide)

/-! ## What passes over the cells -/

/-- The share of the source a transfer holds: the first stage over x and over z each half, the others all. -/
def shr : Fin 16 → PosShare TreeShare :=
  ![fullShare, fullShare, fullShare, fullShare, fullShare.left, fullShare.right, fullShare.left, fullShare.right, fullShare.left, fullShare.right,
    fullShare.left, fullShare.right, fullShare, fullShare, fullShare, fullShare]

/-- The place on the receiver where transfer `n` of device `c` lands, whatever it holds. -/
def room (c : Dev nD) (n : Fin 16) : sProp 𝕄 := iprop(∃ f : OC F, pt (nbr (dir n) c) (rows (snd c n)) fullShare f)

/-- A signal from the neighbour in direction `d` hands over the places there for the transfers to it. -/
def barPay (c : Dev nD) (d : Fin 3) : sProp 𝕄 := bigSep (Finset.univ.filter fun n => dir n = d) fun n => room c n
/-- The source comes back when sent, -/
def sdPay (c : Dev nD) (n : Fin 16) : sProp 𝕄 := pt c (rows (snd c n)) (shr n) (full m c)
/-- and the chunk is there when received. -/
def rvPay (c : Dev nD) (n : Fin 16) : sProp 𝕄 := pt c (rows (lnd c n)) fullShare (full m c)

/-- The duties of a cell: the barrier's three signals, a transfer's one landing. -/
def dutsOf : Cell → Finset (Fin 3)
  | none => Finset.univ
  | some _ => {0}
def amtOf : Cell → ℕ
  | none => 1
  | some _ => N
def payOf (c : Dev nD) (d : Fin 3) : Cell → sProp 𝕄
  | none => barPay c d
  | some (false, n) => sdPay m c n
  | some (true, n) => rvPay m c n

instance payOf_storable (c : Dev nD) (d : Fin 3) (k : Cell) : BI.Storable (upEmb : UEmb _ 𝕄) (payOf m c d k) := by
  rcases k with _ | ⟨_ | _, n⟩
  · show BI.Storable upEmb (barPay (F := F) c d); unfold barPay room; infer_instance
  · show BI.Storable upEmb (sdPay m c n); unfold sdPay; infer_instance
  · show BI.Storable upEmb (rvPay m c n); unfold rvPay; infer_instance

/-- One round. -/
def Rd : Rounds.Schedule (GSem nD τ sig) (Fin 3) 𝕄 where
  duties g r := if r = 0 ∧ g.1.2 = .tc then (match kindOf g.2 with | none => ∅ | some k => dutsOf k) else ∅
  unitless _ := False
  amount g _ _ := match kindOf g.2 with | none => 1 | some k => amtOf k
  payload g _ d := match kindOf g.2 with | none => iprop(emp) | some k => payOf m g.1.1 d k
  amount_pos g _ _ _ := by
    rcases kindOf g.2 with _ | _ | k
    · exact Nat.one_pos
    · exact Nat.one_pos
    · exact N_pos

instance Rd_payload_storable (g : GSem nD τ sig) (r : ℕ) (d : Fin 3) : BI.Storable (upEmb : UEmb _ 𝕄) ((Rd (F := F) m).payload g r d) := by
  show BI.Storable upEmb (match kindOf g.2 with | none => iprop(emp) | some k => payOf m g.1.1 d k)
  rcases kindOf g.2 with _ | k
  · show BI.Storable upEmb iprop(emp); infer_instance
  · show BI.Storable upEmb (payOf m g.1.1 d k); infer_instance

section Sched
variable (c : Dev nD) (k : Cell)

theorem duties_cell : (Rd (F := F) m).duties (cell c k) 0 = dutsOf k := by
  dsimp only [Rd]; rw [if_pos ⟨rfl, rfl⟩, kindOf_csem]
theorem duties_later (g : GSem nD τ sig) : ∀ r, 1 ≤ r → (Rd (F := F) m).duties g r = ∅ := fun r hr => by
  dsimp only [Rd]; exact if_neg fun h => by omega
theorem amount_cell (d : Fin 3) : (Rd (F := F) m).amount (cell c k) 0 d = amtOf k := by
  dsimp only [Rd]; rw [kindOf_csem]
theorem payload_cell (d : Fin 3) : (Rd (F := F) m).payload (cell c k) 0 d = payOf m c d k := by
  dsimp only [Rd]; rw [kindOf_csem]

theorem expect_bar : (Rd (F := F) m).expect (bar c) 0 = 3 := by
  unfold Schedule.expect Schedule.amountOf
  rw [duties_cell, Finset.sum_congr rfl fun d _ => amount_cell m c none d]
  rfl
theorem expect_some (x : Bool × Fin 16) : (Rd (F := F) m).expect (cell c (some x)) 0 = N := by
  unfold Schedule.expect Schedule.amountOf
  rw [duties_cell]
  show ∑ d ∈ ({0} : Finset (Fin 3)), _ = _
  rw [Finset.sum_singleton, amount_cell]; rfl

/-- All of a transfer cell's round is its one payload. -/
theorem rest_some (x : Bool × Fin 16) :
    bigSep ((Rd (F := F) m).duties (cell c (some x)) 0 \ ∅) (fun d => (Rd (F := F) m).payload (cell c (some x)) 0 d) = payOf m c 0 (some x) := by
  rw [Finset.sdiff_empty, duties_cell]
  show bigSep ({0} : Finset (Fin 3)) _ = _
  rw [bigSep_singleton, payload_cell]

/-- The transfers by direction are all the transfers. -/
theorem by_dir (Φ : Fin 16 → sProp 𝕄) :
    (bigSep Finset.univ fun d : Fin 3 => bigSep (Finset.univ.filter fun n => dir n = d) Φ) = bigSep Finset.univ Φ := by
  rw [← BI.bigSep_biUnion_eq Finset.univ (fun d : Fin 3 => Finset.univ.filter fun n => dir n = d) Φ (by decide)]
  rw [show (Finset.univ.biUnion fun d : Fin 3 => Finset.univ.filter fun n : Fin 16 => dir n = d) = Finset.univ from by decide]

/-- All of the barrier's round: the places on the neighbours for every transfer. -/
theorem rest_bar :
    bigSep ((Rd (F := F) m).duties (bar c) 0 \ ∅) (fun d => (Rd (F := F) m).payload (bar c) 0 d) = bigSep Finset.univ fun n => room c n := by
  rw [Finset.sdiff_empty, duties_cell, ← by_dir]
  exact bigSep_congr fun d _ => payload_cell m c none d

end Sched

/-! ## What a device owes -/

/-- What transfer `n` owes the receiver. -/
def due (c : Dev nD) (n : Fin 16) : CellTallies nD τ sig Unit := tallyAt (rv (nbr (dir n) c) n) () N
/-- What the transfers from the `k`-th on owe. -/
def dues (c : Dev nD) (k : ℕ) : CellTallies nD τ sig Unit := ∑ n ∈ (Finset.univ : Finset (Fin 16)).filter fun n => k ≤ n.val, due c n
/-- What the signal in direction `d` owes. -/
def sig1 (c : Dev nD) (d : Fin 3) : CellTallies nD τ sig Unit := tallyAt (bar (nbr d c)) () 1
/-- What a device owes at first. -/
def O₀ (c : Dev nD) : CellTallies nD τ sig Unit := dues c 0 + sig1 c 2 + sig1 c 1 + sig1 c 0

/-- The `n`-th transfer pays its part. -/
theorem dues_step (c : Dev nD) (n : Fin 16) : dues c n.val = dues c (n.val + 1) + due c n := by
  unfold dues
  have h : ((Finset.univ : Finset (Fin 16)).filter fun x => n.val ≤ x.val) = insert n ((Finset.univ : Finset (Fin 16)).filter fun x => n.val + 1 ≤ x.val) := by
    revert n; decide
  rw [h, Finset.sum_insert (by simp), add_comm]

/-- After the last nothing is owed. -/
theorem dues_end (c : Dev nD) : dues c 16 = 0 := by
  unfold dues
  rw [show ((Finset.univ : Finset (Fin 16)).filter fun x => 16 ≤ x.val) = ∅ from by decide, Finset.sum_empty]

def L (g : GSem nD τ sig) : Finset Unit := if g.1.2 = .tc then {()} else ∅

/-- The stage of a transfer: over y, first over x and z, second. -/
def stage : Fin 16 → ℕ := ![0, 0, 0, 0, 1, 1, 1, 1, 1, 1, 1, 1, 2, 2, 2, 2]
def lvOf : Cell → ℕ
  | none => 1
  | some (false, _) => 0
  | some (true, n) => 2 + stage n
/-- The order: sends and staging, the barrier, the receives by stage. -/
def lv (g : GSem nD τ sig) (_ : Unit) : ℕ := match kindOf g.2 with | none => 0 | some k => lvOf k

theorem lv_cell (c : Dev nD) (k : Cell) : lv (cell c k) () = lvOf k := by unfold lv; rw [kindOf_csem]

theorem L_of_ne (g : GSem nD τ sig) (h : g.1.2 ≠ .tc) : L g = ∅ := if_neg h
theorem L_tc (c : Dev nD) (sm : SemLoc sig) : L ((c : Thread nD τ), sm) = {()} := if_pos rfl

/-- Whatever is owed to transfers is owed to a receive cell of one of them. -/
theorem dues_pos {c : Dev nD} {k : ℕ} {g : GSem nD τ sig} {u : Unit} (h : 0 < dues c k g u) : ∃ n : Fin 16, k ≤ n.val ∧ g = rv (nbr (dir n) c) n := by
  by_contra hn
  have hn' : ∀ n ∈ (Finset.univ : Finset (Fin 16)).filter fun n => k ≤ n.val, due c n g u = 0 := by
    intro n hk
    unfold due
    rw [tallyAt_apply, if_neg fun e => hn ⟨n, (Finset.mem_filter.mp hk).2, e.1⟩]
  have e : dues c k g u = ∑ n ∈ (Finset.univ : Finset (Fin 16)).filter fun n => k ≤ n.val, due c n g u := by
    unfold dues; rw [Finset.sum_apply, Finsupp.finset_sum_apply]
  rw [e, Finset.sum_eq_zero hn'] at h
  exact Nat.lt_irrefl 0 h

/-- Whatever is owed at first is owed to a barrier or to a receive cell. -/
theorem O₀_pos {c : Dev nD} {g : GSem nD τ sig} {u : Unit} (h : 0 < O₀ c g u) :
    (∃ d, g = bar (nbr d c)) ∨ ∃ n : Fin 16, g = rv (nbr (dir n) c) n := by
  by_contra hn
  rw [not_or] at hn
  have h1 : ∀ d, sig1 c d g u = 0 := fun d => by
    unfold sig1; rw [tallyAt_apply, if_neg fun e => hn.1 ⟨d, e.1⟩]
  have h2 : dues c 0 g u = 0 := Nat.eq_zero_of_not_pos fun hp => by
    obtain ⟨n, -, e⟩ := dues_pos hp
    exact hn.2 ⟨n, e⟩
  unfold O₀ at h
  rw [Pi.add_apply, Finsupp.add_apply, Pi.add_apply, Finsupp.add_apply, Pi.add_apply, Finsupp.add_apply, h1, h1, h1, h2] at h
  exact Nat.lt_irrefl 0 h

/-- A device may wait on a cell below the receive cells of the transfers it has yet to start. -/
theorem mayWait_dues (c : Dev nD) (k : Cell) (j : ℕ) (h : ∀ n : Fin 16, j ≤ n.val → lvOf k < 2 + stage n) :
    (levAts L lv : sProp 𝕄) ⊢ MayWait (c : Thread nD τ) (csem k) () (dues c j) :=
  MayOwe.of_cut (L := L) (lev := lv) (lvOf k) (fun p hp => by rw [Finset.mem_singleton.mp hp, L_tc]; exact Finset.mem_singleton_self _)
    (fun g u hg => by obtain ⟨n, -, rfl⟩ := dues_pos hg; exact Finset.mem_singleton_self _)
    (fun p hp => by rw [Finset.mem_singleton.mp hp]; exact (lv_cell c k).le)
    (fun g u hg => by
      obtain ⟨n, hn, rfl⟩ := dues_pos hg
      exact (h n hn).trans_eq (lv_cell (nbr (dir n) c) (some (true, n))).symm)

/-- It may wait on a staging semaphore whatever it owes at first or last. -/
theorem mayWait_stage (c : Dev nD) (q : DmaSem sig) (hq : ofDma q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨n, rfl⟩ <;> exact Finset.mem_singleton_self _)
      (fun p hp => by
        rw [Finset.mem_singleton.mp hp]; dsimp only [lv, kindOf]; rw [hq]; exact Nat.le_refl 0)
      (fun g u hg => by
        rcases O₀_pos hg with ⟨d, rfl⟩ | ⟨n, rfl⟩
        · rw [lv_cell]; decide
        · rw [lv_cell]; exact Nat.lt_of_lt_of_le Nat.zero_lt_two (Nat.le_add_right 2 _))
  · rw [MayWait_zero]; iintro -; iempintro

end Cert.KernelIdeal.Gather

end
-- ==== Proof.Ideal.Steps.lean ====
/-
One rule per kind of step of the kernel, each for any transfer: a signal, the barrier's wait, a transfer's start, a wait
for a transfer, a store of a chunk, a store of a quarter.
-/
module

public import proofs.«01_k».proof.Proof.Ideal.Sched
public import Idealize.ShloMosaic.Lib.Tactic
public import Idealize.ShloMosaic.Lib.Pipeline.Value

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What everyone knows -/

/-- The invariant of every cell, that each has reached its round, and the order. -/
def recs (K : Dev nD × Cell → ℕ) : sProp 𝕄 :=
  iprop((bigSep Finset.univ fun ck : Dev nD × Cell => cellInv ER (Rd m) (K ck) (cell ck.1 ck.2))
    ∗ (bigSep Finset.univ fun ck : Dev nD × Cell => reached ER (cell ck.1 ck.2) 0) ∗ levAts L lv)

instance recs_persistent (K : Dev nD × Cell → ℕ) : BI.Persistent (recs m K) := by unfold recs; infer_instance

variable (K : Dev nD × Cell → ℕ)

theorem recs_inv (c : Dev nD) (k : Cell) : recs m K ⊢ cellInv ER (Rd m) (K (c, k)) (cell c k) := by
  have h : (bigSep Finset.univ fun ck : Dev nD × Cell => cellInv ER (Rd m) (K ck) (cell ck.1 ck.2)) ⊢ cellInv ER (Rd m) (K (c, k)) (cell c k) :=
    bigSep_elim (Finset.mem_univ (c, k))
  unfold recs
  iintro ⟨H, -, -⟩
  iapply h
  iexact H
theorem recs_reached (c : Dev nD) (k : Cell) : recs m K ⊢ reached ER (cell c k) 0 := by
  have h : (bigSep Finset.univ fun ck : Dev nD × Cell => (reached ER (cell ck.1 ck.2) 0 : sProp 𝕄)) ⊢ reached ER (cell c k) 0 :=
    bigSep_elim (Finset.mem_univ (c, k))
  unfold recs
  iintro ⟨-, H, -⟩
  iapply h
  iexact H
theorem recs_lev : recs m K ⊢ levAts L lv := by
  unfold recs
  iintro ⟨-, -, H⟩
  iexact H

/-! ## What a device holds -/

/-- What it owes, whatever it has waited for. -/
def Ow (c : Dev nD) (O : CellTallies nD τ sig Unit) : sProp 𝕄 := iprop(∃ W, owes (c : Thread nD τ) O W)
/-- What it needs to start transfer `n`. -/
def kit (c : Dev nD) (n : Fin 16) : sProp 𝕄 :=
  iprop(atPos ER (sd c n) 0 ∅ 0 ∗ dutyTok ER (sd c n) 0 0 ∗ dutyTok ER (rv (nbr (dir n) c) n) 0 0)
/-- What it needs to wait on a transfer's cell. -/
def pend (c : Dev nD) (x : Bool × Fin 16) : sProp 𝕄 :=
  iprop(atPos ER (cell c (some x)) 0 ∅ 0 ∗ cred (tallyAt (cell c (some x)) () N))
/-- What it has when it has waited: the payload, and the semaphore at zero. -/
def got (c : Dev nD) (x : Bool × Fin 16) : sProp 𝕄 := iprop(payOf m c 0 (some x) ∗ semVal (cell c (some x)) 0)
/-- Its argument. -/
def xP (c : Dev nD) : sProp 𝕄 := ((c : Thread nD τ).loc cc0_stg0_0) ↦{fullShare} xstg m c
/-- A chunk of its own half, whatever it holds. -/
def own (c : Dev nD) (n : Fin 16) : sProp 𝕄 := iprop(∃ f : OC F, pt c (rows (snd c n)) fullShare f)

theorem via_x : ∀ j : Fin 4, via ⟨4 + 2 * j.val, by omega⟩ = ⟨j.val, by omega⟩ := by decide
theorem via_z : ∀ j : Fin 4, via ⟨5 + 2 * j.val, by omega⟩ = ⟨j.val, by omega⟩ := by decide

/-- The forwarded chunks: a chunk arrived over y, in two halves, is the source of a transfer over x and of one over z. -/
theorem fwd_halves (c : Dev nD) (j : Fin 4) :
    rvPay m c ⟨j.val, by omega⟩ = iprop(sdPay m c ⟨4 + 2 * j.val, by omega⟩ ∗ sdPay m c ⟨5 + 2 * j.val, by omega⟩) := by
  unfold rvPay sdPay
  have e1 : snd c ⟨4 + 2 * j.val, by omega⟩ = lnd c ⟨j.val, by omega⟩ := by
    rw [snd_via c _ (Nat.le_add_right 4 _), via_x]
  have e2 : snd c ⟨5 + 2 * j.val, by omega⟩ = lnd c ⟨j.val, by omega⟩ := by
    rw [snd_via c _ (by show 4 ≤ 5 + 2 * j.val; omega), via_z]
  have s1 : shr ⟨4 + 2 * j.val, by omega⟩ = fullShare.left := by fin_cases j <;> rfl
  have s2 : shr ⟨5 + 2 * j.val, by omega⟩ = fullShare.right := by fin_cases j <;> rfl
  rw [e1, e2, s1, s2, pt_halves]

/-- A chunk arrived in the first stage is the source of a transfer of the second. -/
theorem fwd_whole (c : Dev nD) (n : Fin 16) (h : 12 ≤ n.val) : rvPay m c (via n) = sdPay m c n := by
  unfold rvPay sdPay
  rw [snd_via c n (by omega), show shr n = fullShare from by revert n; intro n; fin_cases n <;> first | (intro h; rfl) | (intro h; exact absurd h (by decide))]

/-- The places for the transfers from the neighbour in one direction, handed to it. -/
theorem barPay_of (c : Dev nD) (d : Fin 3) :
    (bigSep (Finset.univ.filter fun n => dir n = d) fun n => iprop(∃ f : OC F, pt c (rows (lnd c n)) fullShare f)) ⊢ barPay (nbr d c) d := by
  unfold barPay
  refine bigSep_mono fun n hn => ?_
  have e : dir n = d := (Finset.mem_filter.mp hn).2
  unfold room lnd
  rw [e, nbr_nbr]
  exact BI.Entails.refl _

/-! ## The schedule at the semaphores as the program names them -/

/-- The runtime's barrier semaphore. -/
abbrev barS : Sem sig := (SemArray.scalar (sig.barrier 0 rfl) : Sems sig S_).sem

section Named

variable (c : Dev nD)

theorem bar_duties : (Rd (F := F) m).duties ((c : Thread nD τ), .reg barS) 0 = Finset.univ := duties_cell m c none
theorem bar_payload (d : Fin 3) : (Rd (F := F) m).payload ((c : Thread nD τ), .reg barS) 0 d = barPay c d := payload_cell m c none d
theorem bar_expect : (Rd (F := F) m).expect ((c : Thread nD τ), .reg barS) 0 = 3 := expect_bar m c
theorem bar_rest : bigSep ((Rd (F := F) m).duties ((c : Thread nD τ), .reg barS) 0 \ ∅) (fun d => (Rd (F := F) m).payload ((c : Thread nD τ), .reg barS) 0 d)
    = bigSep Finset.univ fun n => room c n := rest_bar m c
theorem bar_inv : recs m K ⊢ cellInv ER (Rd m) (K (c, none)) ((c : Thread nD τ), .reg barS) := recs_inv m K c none
theorem bar_reached : recs m K ⊢ reached ER ((c : Thread nD τ), .reg barS) 0 := recs_reached m K c none
set_option maxRecDepth 100000 in
theorem bar_wait : recs m K ⊢ MayWait (c : Thread nD τ) (.reg barS) () (dues c 0) := by
  have h := mayWait_dues (F := F) c none 0 (fun n _ => Nat.lt_of_lt_of_le (by decide : lvOf none < 2) (Nat.le_add_right 2 _))
  unfold recs
  iintro ⟨-, -, H⟩
  iapply h
  iexact H

variable {sem : DmaSem sig} {x : Bool × Fin 16} (hs : SemLoc.dma sem = csem (some x))
include hs

theorem dma_duties : (Rd (F := F) m).duties ((c : Thread nD τ), .dma sem) 0 = {0} := by rw [hs]; exact duties_cell m c (some x)
theorem dma_amount : (Rd (F := F) m).amount ((c : Thread nD τ), .dma sem) 0 0 = N := by rw [hs]; exact amount_cell m c (some x) 0
theorem dma_payload : (Rd (F := F) m).payload ((c : Thread nD τ), .dma sem) 0 0 = payOf m c 0 (some x) := by rw [hs]; exact payload_cell m c (some x) 0
theorem dma_expect : (Rd (F := F) m).expect ((c : Thread nD τ), .dma sem) 0 = N := by rw [hs]; exact expect_some m c x
theorem dma_rest : bigSep ((Rd (F := F) m).duties ((c : Thread nD τ), .dma sem) 0 \ ∅) (fun d => (Rd (F := F) m).payload ((c : Thread nD τ), .dma sem) 0 d)
    = payOf m c 0 (some x) := by rw [hs]; exact rest_some m c x
theorem dma_inv : recs m K ⊢ cellInv ER (Rd m) (K (c, some x)) ((c : Thread nD τ), .dma sem) := by rw [hs]; exact recs_inv m K c (some x)
theorem dma_reached : recs m K ⊢ reached ER ((c : Thread nD τ), .dma sem) 0 := by rw [hs]; exact recs_reached m K c (some x)
set_option maxRecDepth 100000 in
theorem dma_wait (j : ℕ) (hj : ∀ n : Fin 16, j ≤ n.val → lvOf (some x) < 2 + stage n) :
    recs m K ⊢ MayWait (c : Thread nD τ) (.dma sem) () (dues c j) := by
  rw [hs]
  have h := mayWait_dues (F := F) c (some x) j hj
  unfold recs
  iintro ⟨-, -, H⟩
  iapply h
  iexact H

end Named

section Steps

variable (c : Dev nD)

/-- A signal to the neighbour in direction `d` hands over the places here for its transfers. -/
theorem step_signal {α : Type} {Q : α → sProp 𝕄} (d : Fin 3) {e : Dev nD} (he : e = nbr d c) (O : CellTallies nD τ sig Unit)
    {k : PUnit → Prog (TpuEff nD τ sig (Elt F) Λ₀ .tc) α} :
    iprop(recs m K ∗ Ow c (O + sig1 c d) ∗ dutyTok ER (bar (nbr d c)) 0 d
        ∗ bigSep (Finset.univ.filter fun n => dir n = d) fun n => iprop(∃ f : OC F, pt c (rows (lnd c n)) fullShare f))
      ⊢ iprop((Ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (e, .tc) barS (1#32).toInt) k) Q) := by
  subst he
  unfold Ow sig1
  iintro ⟨#HR, ⟨%W, HO⟩, Htok, Hpay⟩ Hk
  iapply (Rounds.wp_signal 𝒱₀ ER (Rd m) (c : Thread nD τ) none (dst := (nbr d c : Thread nD τ)) (κ := K (nbr d c, none))
      (d := d) (by rw [bar_duties]; exact Finset.mem_univ _) ((amount_cell m (nbr d c) none d).trans (by decide)) () O rfl)
    $$ [HO Htok Hpay]
  · isplitr; · iapply (bar_inv m K (nbr d c)); iexact HR
    isplitl [HO]; · iexact HO
    isplitl [Htok]; · iexact Htok
    isplitl [Hpay]
    · rw [bar_payload]
      iapply (barPay_of c d)
      iexact Hpay
    iapply (bar_reached m K (nbr d c)); iexact HR
  iintro HO
  iapply Hk
  iexists W
  iexact HO

/-- The barrier's wait: the places on the neighbours, for every transfer; the barrier's semaphore is at zero. -/
theorem step_barrier {α : Type} {Q : α → sProp 𝕄} {k : PUnit → Prog (TpuEff nD τ sig (Elt F) Λ₀ .tc) α} :
    iprop(recs m K ∗ Ow c (dues c 0) ∗ atPos ER (bar c) 0 ∅ 0 ∗ cred (tallyAt (bar c) () 3))
      ⊢ iprop(((Ow c (dues c 0) ∗ (bigSep Finset.univ fun n => room c n) ∗ semVal (bar c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  unfold Ow
  iintro ⟨#HR, ⟨%W, HO⟩, Hat, Hc⟩ Hk
  iapply (Rounds.wp_wait_rest_token 𝒱₀ ER (Rd m) (c : Thread nD τ) none (κ := K (c, none))
      (wpE_semWait_eq 𝒱₀ (c : Thread nD τ) none Set.univ) (Set.mem_univ _) () (O := dues c 0) (W := W) (R := 0) (m := 0) (T := ∅)
      (by rw [bar_expect]; decide))
    $$ [Hc HO Hat]
  · isplitr; · iapply (bar_inv m K c); iexact HR
    isplitl [Hc]; · iexact Hc
    isplitl [HO]; · iexact HO
    isplitr; · iapply (bar_wait m K c); iexact HR
    iexact Hat
  iintro ⟨HO, Hat, -, Hpay⟩
  imod (Rounds.cell_close ER (Rd m) (g := ((c : Thread nD τ), .reg barS)) (Set.mem_univ (K (c, none))) (fun h => h) (R := 0 + 1) (duties_later m _)) $$ [Hat] with Hz
  · isplitr; · iapply (bar_inv m K c); iexact HR
    iexact Hat
  ihave Hp := (Entails.of_eq (bar_rest m c)) $$ Hpay
  iapply Hk
  isplitl [HO]; · iexists _; iexact HO
  isplitl [Hp]; · iexact Hp
  iexact Hz

/-- A wait for a transfer, the device owing the transfers from the `j`-th on. -/
theorem step_wait {α : Type} {Q : α → sProp 𝕄} (x : Bool × Fin 16) (j : ℕ) (hj : ∀ n : Fin 16, j ≤ n.val → lvOf (some x) < 2 + stage n)
    {sem : DmaSem sig} (hs : SemLoc.dma sem = csem (some x))
    {off off' : Fin 2 → ℕ} {inb : ∀ a, off a + S128x512.size a ≤ S4096x512.size a} {inb' : ∀ a, off' a + S128x512.size a ≤ S4096x512.size a}
    {h h'} {hsrc : (oM.slice (Rect.unit (s := S4096x512) off S128x512.size inb) h).view.WordExact}
    {hdst : (oM.slice (Rect.unit (s := S4096x512) off' S128x512.size inb') h').view.WordExact}
    {k : PUnit → Prog (TpuEff nD τ sig (Elt F) Λ₀ .tc) α} :
    iprop(recs m K ∗ Ow c (dues c j) ∗ pend c x)
      ⊢ iprop(((Ow c (dues c j) ∗ got m c x) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem (oM.slice (Rect.unit (s := S4096x512) off S128x512.size inb) h)
                (oM.slice (Rect.unit (s := S4096x512) off' S128x512.size inb') h') hsrc hdst) k) Q) := by
  have hc : cell c (some x) = (((c : Thread nD τ), SemLoc.dma sem) : GSem nD τ sig) := by rw [hs]
  unfold Ow pend got
  rw [hc]
  iintro ⟨#HR, ⟨%W, HO⟩, Hat, Hc⟩ Hk
  iapply (Rounds.wp_wait_rest_token 𝒱₀ ER (Rd m) (c : Thread nD τ) none (κ := K (c, some x)) (sm := .dma sem)
      (wpE_waitDma2_eq 𝒱₀ (c : Thread nD τ) none Set.univ (hsrc := hsrc) (hdst := hdst)) (Set.mem_univ _) () (O := dues c j) (W := W) (R := 0) (m := 0) (T := ∅)
      ((Nat.zero_add N).trans (dma_expect m c hs).symm))
    $$ [Hc HO Hat]
  · isplitr; · iapply (dma_inv m K c hs); iexact HR
    isplitl [Hc]; · iexact Hc
    isplitl [HO]; · iexact HO
    isplitr; · iapply (dma_wait m K c hs j hj); iexact HR
    iexact Hat
  iintro ⟨HO, Hat, -, Hpay⟩
  imod (Rounds.cell_close ER (Rd m) (g := ((c : Thread nD τ), .dma sem)) (Set.mem_univ (K (c, some x))) (fun h => h) (R := 0 + 1) (duties_later m _)) $$ [Hat] with Hz
  · isplitr; · iapply (dma_inv m K c hs); iexact HR
    iexact Hat
  ihave Hp := (Entails.of_eq (dma_rest m c hs)) $$ Hpay
  iapply Hk
  isplitl [HO]; · iexists _; iexact HO
  isplitl [Hp]; · iexact Hp
  iexact Hz

/-- The view of the chunk moved covers the chunk. -/
theorem slice_rows {off : Fin 2 → ℕ} {a : Fin 32} (ho : off = rowOff a) {inb : ∀ a, off a + S128x512.size a ≤ S4096x512.size a} {h} :
    (oM.slice (Rect.unit (s := S4096x512) off S128x512.size inb) h).view.set = rows a := by
  refine Eq.trans ?_ (block_rows (inb := inb) ho)
  show ((View.whole cc0_stg1_0).slice _).set = _
  rw [View.set_slice_whole]

/-- What lands is what the receiver's payload says. -/
theorem landed (n : Fin 16) {off : Fin 2 → ℕ} (ho : off = rowOff (snd c n))
    {inb inb' : ∀ a, off a + S128x512.size a ≤ S4096x512.size a} {h h'} (fd : OC F) :
    (((nbr (dir n) c : Thread nD τ).loc cc0_stg1_0) ↦[(oM.slice (Rect.unit (s := S4096x512) off S128x512.size inb') h').view.set]{fullShare}
        ((oM.slice (Rect.unit (s := S4096x512) off S128x512.size inb') h').view.write (Elt F) fd
          ((oM.slice (Rect.unit (s := S4096x512) off S128x512.size inb) h).view.read (Elt F) (full m c)) Finset.univ))
      ⊢ rvPay m (nbr (dir n) c) n := by
  unfold rvPay pt
  rw [lnd_nbr, slice_rows ho]
  exact Entails.of_eq (pointsTo_congr fun i hi =>
    (copied (oM.slice (Rect.unit (s := S4096x512) off S128x512.size inb') h').view fd (full m c) (by rw [slice_rows ho]; exact hi)).trans
      (full_nbr m c n hi).symm)

/-- The source of a transfer, as its view. -/
theorem src_pts (n : Fin 16) {off : Fin 2 → ℕ} (ho : off = rowOff (snd c n))
    {inb : ∀ a, off a + S128x512.size a ≤ S4096x512.size a} {h} :
    sdPay m c n ⊢ (((c : Thread nD τ).loc cc0_stg1_0) ↦[(oM.slice (Rect.unit (s := S4096x512) off S128x512.size inb) h).view.set]{shr n} full m c) := by
  unfold sdPay pt
  rw [slice_rows ho]
theorem pts_src (n : Fin 16) {off : Fin 2 → ℕ} (ho : off = rowOff (snd c n))
    {inb : ∀ a, off a + S128x512.size a ≤ S4096x512.size a} {h} :
    (((c : Thread nD τ).loc cc0_stg1_0) ↦[(oM.slice (Rect.unit (s := S4096x512) off S128x512.size inb) h).view.set]{shr n} full m c) ⊢ payOf m c 0 (some (false, n)) := by
  show _ ⊢ sdPay m c n
  unfold sdPay pt
  rw [slice_rows ho]

/-- The place of a landing, as its view. -/
theorem dst_pts (n : Fin 16) {off : Fin 2 → ℕ} (ho : off = rowOff (snd c n))
    {inb : ∀ a, off a + S128x512.size a ≤ S4096x512.size a} {h} (fd : OC F) :
    (pt (nbr (dir n) c) (rows (snd c n)) fullShare fd : sProp 𝕄)
      ⊢ (((nbr (dir n) c : Thread nD τ).loc cc0_stg1_0) ↦[(oM.slice (Rect.unit (s := S4096x512) off S128x512.size inb) h).view.set]{fullShare} fd) := by
  unfold pt
  rw [slice_rows ho]

/-- The start of transfer `n`: its source and the place on the receiver go, the wait for its end remains. -/
theorem step_send {α : Type} {Q : α → sProp 𝕄} (n : Fin 16) {e : Dev nD} (he : e = nbr (dir n) c)
    {sS sR : DmaSem sig} (hS : SemLoc.dma sS = csem (some (false, n))) (hR : SemLoc.dma sR = csem (some (true, n)))
    {off : Fin 2 → ℕ} (ho : off = rowOff (snd c n))
    {inb inb' : ∀ a, off a + S128x512.size a ≤ S4096x512.size a} {h h'}
    {hsc : (oM.slice (Rect.unit (s := S4096x512) off S128x512.size inb') h' : Memref sig (Dev.tc e : Thread nD τ).2.kind .vmem S128x512 .bf16).view.ref.isScScratch = false}
    {hsrc : (oM.slice (Rect.unit (s := S4096x512) off S128x512.size inb) h).view.WordExact}
    {hdst : (oM.slice (Rect.unit (s := S4096x512) off S128x512.size inb') h' : Memref sig (Dev.tc e : Thread nD τ).2.kind .vmem S128x512 .bf16).view.WordExact}
    {hsem : DmaTarget.Typed .vmem (.dma sR) (.remote (Dev.tc e : Thread nD τ) (oM.slice (Rect.unit (s := S4096x512) off S128x512.size inb') h') (.dma sS) hsc)}
    {k : PUnit → Prog (TpuEff nD τ sig (Elt F) Λ₀ .tc) α} :
    iprop(recs m K ∗ Ow c (dues c n.val) ∗ kit c n ∗ room c n ∗ sdPay m c n)
      ⊢ iprop(((Ow c (dues c (n.val + 1)) ∗ pend c (false, n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) off S128x512.size inb) h)
                (.remote (Dev.tc e : Thread nD τ) (oM.slice (Rect.unit (s := S4096x512) off S128x512.size inb') h') (.dma sS) hsc) (.dma sR) hsrc hdst hsem) k) Q) := by
  subst he
  have hc : sd c n = (((c : Thread nD τ), SemLoc.dma sS) : GSem nD τ sig) := by rw [hS]
  have hc' : rv (nbr (dir n) c) n = (((nbr (dir n) c : Thread nD τ), SemLoc.dma sR) : GSem nD τ sig) := by rw [hR]
  rw [dues_step]
  unfold Ow kit room pend due
  rw [hc, hc']
  iintro ⟨#HR, ⟨%W, HO⟩, ⟨Hat, HtS, HtR⟩, ⟨%fd, Hd⟩, Hs⟩ Hk
  iapply (Rounds.wp_send_pointsTo 𝒱₀ ER (Rd m) (c : Thread nD τ) none (κ₁ := K (c, some (false, n))) (κ₂ := K (nbr (dir n) c, some (true, n)))
      (src := oM.slice (Rect.unit (s := S4096x512) off S128x512.size inb) h)
      (dst := (oM.slice (Rect.unit (s := S4096x512) off S128x512.size inb') h'))
      (c' := (nbr (dir n) c : Thread nD τ)) (sS := .dma sS) (sem := .dma sR)
      (r₁ := 0) (r₂ := 0) (d₁ := 0) (d₂ := 0) (q := shr n) (fs := full m c) (fd := fd)
      (by rw [dma_duties m c hS]; exact Finset.mem_singleton_self _)
      (by rw [dma_duties m (nbr (dir n) c) hR]; exact Finset.mem_singleton_self _)
      () () N rfl (dma_amount m c hS) (dma_amount m (nbr (dir n) c) hR)
      (dues c (n.val + 1)) rfl (W := W)
      ((pts_src m c n ho).trans (Entails.of_eq (dma_payload m c hS).symm))
      ((landed m c n ho fd).trans (Entails.of_eq (dma_payload m (nbr (dir n) c) hR).symm)))
    $$ [HO HtS HtR Hd Hs]
  · isplitr; · iapply (dma_inv m K c hS); iexact HR
    isplitr; · iapply (dma_inv m K (nbr (dir n) c) hR); iexact HR
    isplitl [Hs]; · iapply (src_pts m c n ho); iexact Hs
    isplitl [Hd]; · iapply (dst_pts c n ho fd); iexact Hd
    isplitl [HO]; · iexact HO
    isplitl [HtS]; · iexact HtS
    isplitr; · iapply (dma_reached m K c hS); iexact HR
    isplitl [HtR]; · iexact HtR
    iapply (dma_reached m K (nbr (dir n) c) hR); iexact HR
  iintro ⟨Hc, HO⟩
  iapply Hk
  isplitl [HO]; · iexists W; iexact HO
  rw [← hc]
  isplitl [Hat]; · iexact Hat
  iexact Hc

/-- The same, the transfers started before and after it given as numbers. -/
theorem step_send' {α : Type} {Q : α → sProp 𝕄} (n : Fin 16) (i j : ℕ) (hi : i = n.val) (hj : j = n.val + 1) {e : Dev nD} (he : e = nbr (dir n) c)
    {sS sR : DmaSem sig} (hS : SemLoc.dma sS = csem (some (false, n))) (hR : SemLoc.dma sR = csem (some (true, n)))
    {off : Fin 2 → ℕ} (ho : off = rowOff (snd c n))
    {inb inb' : ∀ a, off a + S128x512.size a ≤ S4096x512.size a} {h h'}
    {hsc : (oM.slice (Rect.unit (s := S4096x512) off S128x512.size inb') h' : Memref sig (Dev.tc e : Thread nD τ).2.kind .vmem S128x512 .bf16).view.ref.isScScratch = false}
    {hsrc : (oM.slice (Rect.unit (s := S4096x512) off S128x512.size inb) h).view.WordExact}
    {hdst : (oM.slice (Rect.unit (s := S4096x512) off S128x512.size inb') h' : Memref sig (Dev.tc e : Thread nD τ).2.kind .vmem S128x512 .bf16).view.WordExact}
    {hsem : DmaTarget.Typed .vmem (.dma sR) (.remote (Dev.tc e : Thread nD τ) (oM.slice (Rect.unit (s := S4096x512) off S128x512.size inb') h') (.dma sS) hsc)}
    {k : PUnit → Prog (TpuEff nD τ sig (Elt F) Λ₀ .tc) α} :
    iprop(recs m K ∗ Ow c (dues c i) ∗ kit c n ∗ room c n ∗ sdPay m c n)
      ⊢ iprop(((Ow c (dues c j) ∗ pend c (false, n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x512) off S128x512.size inb) h)
                (.remote (Dev.tc e : Thread nD τ) (oM.slice (Rect.unit (s := S4096x512) off S128x512.size inb') h') (.dma sS) hsc) (.dma sR) hsrc hdst hsem) k) Q) := by
  subst hi hj
  exact step_send m K c n he hS hR ho

/-- What a device has when a chunk has arrived over y: the sources of two transfers, and the semaphore at zero. -/
theorem got_halves (j i a b : Fin 16) (hi : i = ⟨j.val % 4, by omega⟩) (ha : a = ⟨4 + 2 * (j.val % 4), by omega⟩) (hb : b = ⟨5 + 2 * (j.val % 4), by omega⟩) :
    got m c (true, i) ⊢ iprop(sdPay m c a ∗ sdPay m c b ∗ semVal (rv c i) 0) := by
  subst hi ha hb
  have h := fwd_halves m c ⟨j.val % 4, by omega⟩
  unfold got
  show iprop(rvPay m c ⟨j.val % 4, _⟩ ∗ _) ⊢ _
  rw [h]
  iintro ⟨⟨H1, H2⟩, H3⟩
  isplitl [H1]; · iexact H1
  isplitl [H2]; · iexact H2
  iexact H3

/-- What a device has when a chunk of the first stage to be sent on has arrived. -/
theorem got_whole (n v : Fin 16) (hn : 12 ≤ n.val) (hv : v = via n) : got m c (true, v) ⊢ iprop(sdPay m c n ∗ semVal (rv c v) 0) := by
  subst hv
  unfold got
  show iprop(rvPay m c (via n) ∗ _) ⊢ _
  rw [fwd_whole m c n hn]

/-- A load of the argument. -/
theorem step_load {α : Type} {Q : α → sProp 𝕄} {size off : Fin 2 → ℕ} {inb : ∀ a, off a + size a ≤ S2048x512.size a}
    {hl : xM.view.LoadsAt (Rect.unit (s := S2048x512) off size inb).toLoadRect}
    {k : ((Rect.unit (s := S2048x512) off size inb).toLoadRect.shape.Idx → Elt F .bf16) → Prog (TpuEff nD τ sig (Elt F) Λ₀ .tc) α} :
    xP m c ⊢ iprop((xP m c -∗ wp frame (wpE (defs₀ (F := F)) 𝒱₀ (c : Thread nD τ) none) Set.univ
              (k (xM.view.readAt (Elt F) (Rect.unit (s := S2048x512) off size inb).toLoadRect (xstg m c))) Q)
          -∗ wp frame (wpE (defs₀ (F := F)) 𝒱₀ (c : Thread nD τ) none) Set.univ (.op (.load xM (Rect.unit (s := S2048x512) off size inb).toLoadRect hl) k) Q) := by
  unfold xP
  exact wp_load 𝒱₀ (c : Thread nD τ) none Set.univ (m := xM) (Finset.subset_univ _)

/-- A store of chunk `n` of the device's own half, loaded from its argument: the chunk is ready to be sent. -/
theorem step_chunk {α : Type} {Q : α → sProp 𝕄} (n : Fin 16) (hn : n.val < 4) {off off' : Fin 2 → ℕ}
    {inb : ∀ a, off a + S128x512.size a ≤ S4096x512.size a} {inb' : ∀ a, off' a + S128x512.size a ≤ S2048x512.size a}
    (ho : off = rowOff (snd c n)) (ho' : off' = ![128 * ((snd c n).val % 16), 0])
    {hl : oM.view.LoadsAt (Rect.unit (s := S4096x512) off S128x512.size inb).toLoadRect}
    {w : (Rect.unit (s := S4096x512) off S128x512.size inb).shape.Idx → Elt F .bf16}
    (hw : w = xM.view.readAt (Elt F) (Rect.unit (s := S2048x512) off' S128x512.size inb').toLoadRect (xstg m c))
    {hx hm} {k : PUnit → Prog (TpuEff nD τ sig (Elt F) Λ₀ .tc) α} :
    own c n ⊢ iprop((sdPay m c n -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S4096x512) off S128x512.size inb).toLoadRect hl) fun _ =>
                .op (.store oM (Rect.unit (s := S4096x512) off S128x512.size inb) w Finset.univ hx hm) k) Q) := by
  have hset : (oM.access (Rect.unit (s := S4096x512) off S128x512.size inb)).set = rows (snd c n) := by
    refine Eq.trans ?_ (block_rows (inb := inb) ho)
    show ((View.whole cc0_stg1_0).slice _).set = _
    rw [View.set_slice_whole]
  have hr : (role n).val < 16 := (by decide : ∀ n : Fin 16, n.val < 4 → (role n).val < 16) n hn
  have hsh : shr n = fullShare := by
    fin_cases n <;> first | rfl | exact absurd hn (by decide)
  unfold own sdPay pt
  iintro ⟨%f, Hf⟩ Hk
  iapply (wp_load_rect 𝒱₀ (c : Thread nD τ) none Set.univ (m := oM) (r := Rect.unit (s := S4096x512) off S128x512.size inb)
    (S := rows (snd c n)) (by rw [hset])) $$ Hf
  iintro Hf
  iapply (wp_store 𝒱₀ (c : Thread nD τ) none Set.univ (m := oM) (r := Rect.unit (s := S4096x512) off S128x512.size inb)
    (S := rows (snd c n)) (Mk := Finset.univ) (by rw [View.setOn_univ, hset])) $$ Hf
  iintro Hf
  iapply Hk
  rw [hsh]
  have e := pointsTo_congr (Ix := Unit) (Name := ℕ) (U := UU) (Lvl := ℕ) (ℓ := (c : Thread nD τ).loc cc0_stg1_0) (q := fullShare) (I := rows (snd c n))
    (stored_chunk m c (r := role n) hr (inb := inb) (inb' := inb') ho ho' (f := f))
  rw [← hw] at e
  ihave Hf' := (Entails.of_eq e) $$ Hf
  iexact Hf'

/-- A store of the `k`-th quarter of the device's own half, loaded from its argument. -/
theorem step_quarter {α : Type} {Q : α → sProp 𝕄} (j : Fin 4) (hj : j ≠ 0) (T : Finset (Fin 4)) {off off' : Fin 2 → ℕ}
    {inb : ∀ a, off a + S512x512.size a ≤ S4096x512.size a} {inb' : ∀ a, off' a + S512x512.size a ≤ S2048x512.size a}
    (ho : off = rowOff (chk c ⟨4 * j.val, by omega⟩)) (ho' : off' = ![128 * ((chk c ⟨4 * j.val, by omega⟩).val % 16), 0])
    {hl : oM.view.LoadsAt (Rect.unit (s := S4096x512) off S512x512.size inb).toLoadRect}
    {w : (Rect.unit (s := S4096x512) off S512x512.size inb).shape.Idx → Elt F .bf16}
    (hw : w = xM.view.readAt (Elt F) (Rect.unit (s := S2048x512) off' S512x512.size inb').toLoadRect (xstg m c))
    {hx hm} {k : PUnit → Prog (TpuEff nD τ sig (Elt F) Λ₀ .tc) α} :
    filled m c T ⊢ iprop((filled m c (insert j T) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S4096x512) off S512x512.size inb).toLoadRect hl) fun _ =>
                .op (.store oM (Rect.unit (s := S4096x512) off S512x512.size inb) w Finset.univ hx hm) k) Q) := by
  have hset : (oM.access (Rect.unit (s := S4096x512) off S512x512.size inb)).set ⊆ restSet c := fun i hi => by
    have hi' : i ∈ ((View.whole cc0_stg1_0).slice (Rect.unit (s := S4096x512) off S512x512.size inb)).set := hi
    rw [View.set_slice_whole] at hi'
    exact quarter_rest hj ((block_quarter ho).mp hi')
  subst hw
  unfold filled pt
  iintro ⟨%f, %hf, Hf⟩ Hk
  iapply (wp_load_rect 𝒱₀ (c : Thread nD τ) none Set.univ (m := oM) (r := Rect.unit (s := S4096x512) off S512x512.size inb)
    (S := restSet c) hset) $$ Hf
  iintro Hf
  iapply (wp_store 𝒱₀ (c : Thread nD τ) none Set.univ (m := oM) (r := Rect.unit (s := S4096x512) off S512x512.size inb)
    (S := restSet c) (Mk := Finset.univ) (by rw [View.setOn_univ]; exact hset)) $$ Hf
  iintro Hf
  iapply Hk
  iexists _
  isplitr
  · ipureintro
    exact stored_quarter m c j (inb := inb) (inb' := inb') ho ho' hf
  iexact Hf

end Steps

end Cert.KernelIdeal.Gather

end
-- ==== Proof.Ideal.Body.lean ====
/-
The kernel's body, part by part: each part run from the resources it uses, in program order, by the steps of its
effects.
-/
module

public import proofs.«01_k».proof.Proof.Ideal.Steps

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- The places on device `c` for the transfers of its neighbour in direction `d`. -/
def places (c : Dev nD) (d : Fin 3) : sProp 𝕄 :=
  bigSep (Finset.univ.filter fun n => dir n = d) fun n => iprop(∃ f : OC F, pt c (rows (lnd c n)) fullShare f)

/-- A shape cast to the same shape changes nothing. -/
theorem pay2 (v : Vec F S128x512 .bf16) : k0_pay2 v = v := shapeCast_self _ _
theorem pay3 (v : Vec F S128x512 .bf16) : k0_pay3 v = v := shapeCast_self _ _
theorem pay4 (v : Vec F S128x512 .bf16) : k0_pay4 v = v := shapeCast_self _ _
theorem pay1 (v : Vec F S128x512 .bf16) : k0_pay1 v = v := shapeCast_self _ _
theorem pay5 (v : Vec F S512x512 .bf16) : k0_pay5 v = v := shapeCast_self _ _
theorem pay6 (v : Vec F S512x512 .bf16) : k0_pay6 v = v := shapeCast_self _ _
theorem pay7 (v : Vec F S512x512 .bf16) : k0_pay7 v = v := shapeCast_self _ _

set_option maxHeartbeats 1600000 in
set_option maxRecDepth 100000 in
/-- The signals over y and x. -/
theorem part1 {Kt : (Σ' (d0 : Dev nD) (v2 : BitVec 32) (v5 : BitVec 32) (v8 : BitVec 32) (v9 : BitVec 32) (v10 : BitVec 32) (v11 : BitVec 32) (v14 : BitVec 32) (v15 : Sems sig S_), BitVec 32) → sProp 𝕄} :
    iprop(recs m K ∗ Ow c (O₀ c) ∗ dutyTok ER (bar (nbr 0 c)) 0 0 ∗ places c 0 ∗ dutyTok ER (bar (nbr 1 c)) 0 1 ∗ places c 1)
      ⊢ iprop((∀ (v2 v5 v8 v9 v10 v11 v14 v31 : BitVec 32), (Ow c (dues c 0 + sig1 c 2)) -∗ Kt ⟨c, v2, v5, v8, v9, v10, v11, v14, SemArray.scalar (sig.barrier 0 rfl), v31⟩)
          -∗ wp frame (wpE (defs₀ (F := F)) 𝒱₀ (c : Thread nD τ) none) Set.univ (k0_part1 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9) Kt) := by
  rw [k0_part1_eq_skeleton]; unfold k0_part1_skel
  simp only [semSignalWord, semWaitWord, Prog.lift, Prog.bind_op, Prog.bind_ret, Prog.pure_eq_ret, wp_deviceId]
  iintro ⟨#HR, HO, T0, L0, T1, L1⟩ Hk
  unfold O₀ places
  iapply (step_signal m K c 0 (dev_y c) (dues c 0 + sig1 c 2 + sig1 c 1)) $$ [HO T0 L0]
  · isplitr; · iexact HR
    isplitl [HO]; · iexact HO
    isplitl [T0]; · iexact T0
    iexact L0
  iintro HO
  iapply (step_signal m K c 1 (dev_x c) (dues c 0 + sig1 c 2)) $$ [HO T1 L1]
  · isplitr; · iexact HR
    isplitl [HO]; · iexact HO
    isplitl [T1]; · iexact T1
    iexact L1
  iintro HO
  rw [wp_ret]; imodintro
  iapply Hk
  iexact HO

set_option maxHeartbeats 1600000 in
set_option maxRecDepth 100000 in
/-- The signal over z, the wait for the neighbours' three, and the load of the first chunk. -/
theorem part2 {Kt : (Σ' (v34 : BitVec 32) (v36 : BitVec 32) (v40 : BitVec 32) (v45 : BitVec 32) (v50 : BitVec 32) (v56 : BitVec 32), FVec F S128x512 .bf16) → sProp 𝕄} (v2 v5 v9 v14 v31 : BitVec 32) :
    iprop(recs m K ∗ Ow c (dues c 0 + sig1 c 2) ∗ dutyTok ER (bar (nbr 2 c)) 0 2 ∗ places c 2 ∗ atPos ER (bar c) 0 ∅ 0 ∗ cred (tallyAt (bar c) () 3) ∗ xP m c)
      ⊢ iprop((∀ (v34 v36 v40 v45 v50 v56 : BitVec 32), (Ow c (dues c 0) ∗ (bigSep Finset.univ fun n => room c n) ∗ semVal (bar c) 0 ∗ xP m c) -∗ Kt ⟨v34, v36, v40, v45, v50, v56, xM.view.readAt (Elt F) (Rect.unit (s := S2048x512) (k0_off1 c 0#32) S128x512.size (k0_off1_inb c 0)).toLoadRect (xstg m c)⟩)
          -∗ wp frame (wpE (defs₀ (F := F)) 𝒱₀ (c : Thread nD τ) none) Set.univ (k0_part2 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v5 v9 v14 (SemArray.scalar (sig.barrier 0 rfl)) v31) Kt) := by
  rw [k0_part2_eq_skeleton]; unfold k0_part2_skel
  simp only [semSignalWord, semWaitWord, Prog.lift, Prog.bind_op, Prog.bind_ret, Prog.pure_eq_ret, wp_deviceId]
  iintro ⟨#HR, HO, T2, L2, HB, HC, Hx⟩ Hk
  unfold places
  iapply (step_signal m K c 2 (dev_z c) (dues c 0)) $$ [HO T2 L2]
  · isplitr; · iexact HR
    isplitl [HO]; · iexact HO
    isplitl [T2]; · iexact T2
    iexact L2
  iintro HO
  iapply (step_barrier m K c) $$ [HO HB HC]
  · isplitr; · iexact HR
    isplitl [HO]; · iexact HO
    isplitl [HB]; · iexact HB
    iexact HC
  iintro ⟨HO, HRm, HB⟩
  iapply (step_load m c) $$ Hx; iintro Hx
  rw [pay1]
  rw [wp_ret]; imodintro
  iapply Hk
  isplitl [HO]; · iexact HO
  isplitl [HRm]; · iexact HRm
  isplitl [HB]; · iexact HB
  iexact Hx

set_option maxHeartbeats 1600000 in
set_option maxRecDepth 100000 in
/-- The first chunk stored and sent over y, the second stored. -/
theorem part3 {Kt : PUnit → sProp 𝕄} (v2 v8 v10 v34 v40 : BitVec 32) (v60 : Vec F S128x512 .bf16) (hv : v60 = xM.view.readAt (Elt F) (Rect.unit (s := S2048x512) (k0_off1 c 0#32) S128x512.size (k0_off1_inb c 0)).toLoadRect (xstg m c)) :
    iprop(recs m K ∗ Ow c (dues c 0) ∗ xP m c ∗ own c 0 ∗ own c 1 ∗ kit c 0 ∗ room c 0)
      ⊢ iprop(((Ow c (dues c 1) ∗ xP m c ∗ sdPay m c 1 ∗ pend c (false, 0)) -∗ Kt ⟨⟩)
          -∗ wp frame (wpE (defs₀ (F := F)) 𝒱₀ (c : Thread nD τ) none) Set.univ (k0_part3 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v8 v10 v34 v40 v60) Kt) := by
  rw [k0_part3_eq_skeleton]; unfold k0_part3_skel
  simp only [semSignalWord, semWaitWord, Prog.lift, Prog.bind_op, Prog.bind_ret, Prog.pure_eq_ret, wp_deviceId]
  iintro ⟨#HR, HO, Hx, W0, W1, K0, R0⟩ Hk
  iapply (step_chunk m c 0 (by decide) (off := k0_off2 c 0#32) (off' := k0_off1 c 0#32) (inb' := k0_off1_inb c 0) (off_st c 0) (off_ld c 0) hv) $$ W0
  iintro D0
  iapply (step_send' m K c 0 0 1 rfl rfl (dev_0 c) rfl rfl (off := k0_off3 c 0#32) (off_y c 0)) $$ [HO K0 R0 D0]
  · isplitr; · iexact HR
    isplitl [HO]; · iexact HO
    isplitl [K0]; · iexact K0
    isplitl [R0]; · iexact R0
    iexact D0
  iintro ⟨HO, P0⟩
  iapply (step_load m c) $$ Hx; iintro Hx
  iapply (step_chunk m c 1 (by decide) (off := k0_off2 c 128#32) (off' := k0_off1 c 128#32) (inb' := k0_off1_inb c 1) (off_st c 1) (off_ld c 1) (pay2 _)) $$ W1
  iintro D1
  rw [wp_ret]; imodintro
  iapply Hk
  isplitl [HO]; · iexact HO
  isplitl [Hx]; · iexact Hx
  isplitl [D1]; · iexact D1
  iexact P0

set_option maxHeartbeats 1600000 in
set_option maxRecDepth 100000 in
/-- The second chunk sent, the third stored and sent, the fourth stored. -/
theorem part4 {Kt : BitVec 32 → sProp 𝕄} (v2 v8 v10 v34 v40 : BitVec 32) :
    iprop(recs m K ∗ Ow c (dues c 1) ∗ xP m c ∗ sdPay m c 1 ∗ own c 2 ∗ own c 3 ∗ kit c 1 ∗ room c 1 ∗ kit c 2 ∗ room c 2)
      ⊢ iprop((∀ (v133 : BitVec 32), (Ow c (dues c 3) ∗ xP m c ∗ sdPay m c 3 ∗ pend c (false, 1) ∗ pend c (false, 2)) -∗ Kt v133)
          -∗ wp frame (wpE (defs₀ (F := F)) 𝒱₀ (c : Thread nD τ) none) Set.univ (k0_part4 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v8 v10 v34 v40) Kt) := by
  rw [k0_part4_eq_skeleton]; unfold k0_part4_skel
  simp only [semSignalWord, semWaitWord, Prog.lift, Prog.bind_op, Prog.bind_ret, Prog.pure_eq_ret, wp_deviceId]
  iintro ⟨#HR, HO, Hx, D1, W2, W3, K1, R1, K2, R2⟩ Hk
  iapply (step_send' m K c 1 1 2 rfl rfl (dev_1 c) rfl rfl (off := k0_off3 c 128#32) (off_y c 1)) $$ [HO K1 R1 D1]
  · isplitr; · iexact HR
    isplitl [HO]; · iexact HO
    isplitl [K1]; · iexact K1
    isplitl [R1]; · iexact R1
    iexact D1
  iintro ⟨HO, P1⟩
  iapply (step_load m c) $$ Hx; iintro Hx
  iapply (step_chunk m c 2 (by decide) (off := k0_off2 c 256#32) (off' := k0_off1 c 256#32) (inb' := k0_off1_inb c 2) (off_st c 2) (off_ld c 2) (pay3 _)) $$ W2
  iintro D2
  iapply (step_send' m K c 2 2 3 rfl rfl (dev_2 c) rfl rfl (off := k0_off3 c 256#32) (off_y c 2)) $$ [HO K2 R2 D2]
  · isplitr; · iexact HR
    isplitl [HO]; · iexact HO
    isplitl [K2]; · iexact K2
    isplitl [R2]; · iexact R2
    iexact D2
  iintro ⟨HO, P2⟩
  iapply (step_load m c) $$ Hx; iintro Hx
  iapply (step_chunk m c 3 (by decide) (off := k0_off2 c 384#32) (off' := k0_off1 c 384#32) (inb' := k0_off1_inb c 3) (off_st c 3) (off_ld c 3) (pay4 _)) $$ W3
  iintro D3
  rw [wp_ret]; imodintro
  iapply Hk
  isplitl [HO]; · iexact HO
  isplitl [Hx]; · iexact Hx
  isplitl [D3]; · iexact D3
  isplitl [P1]; · iexact P1
  iexact P2

set_option maxHeartbeats 1600000 in
set_option maxRecDepth 100000 in
/-- The fourth chunk sent, and the three other quarters of the device's own half stored. -/
theorem part5 {Kt : PUnit → sProp 𝕄} (v2 v8 v10 v34 v45 v50 v56 v133 : BitVec 32) :
    iprop(recs m K ∗ Ow c (dues c 3) ∗ xP m c ∗ sdPay m c 3 ∗ kit c 3 ∗ room c 3 ∗ filled m c ∅)
      ⊢ iprop(((Ow c (dues c 4) ∗ pend c (false, 3) ∗ xP m c ∗ filled m c (insert 3 (insert 1 (insert 2 ∅)))) -∗ Kt ⟨⟩)
          -∗ wp frame (wpE (defs₀ (F := F)) 𝒱₀ (c : Thread nD τ) none) Set.univ (k0_part5 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v8 v10 v34 v45 v50 v56 v133) Kt) := by
  rw [k0_part5_eq_skeleton]; unfold k0_part5_skel
  simp only [semSignalWord, semWaitWord, Prog.lift, Prog.bind_op, Prog.bind_ret, Prog.pure_eq_ret, wp_deviceId]
  iintro ⟨#HR, HO, Hx, D3, K3, R3, Hf⟩ Hk
  iapply (step_send' m K c 3 3 4 rfl rfl (dev_3 c) rfl rfl (off := k0_off3 c 384#32) (off_y c 3)) $$ [HO K3 R3 D3]
  · isplitr; · iexact HR
    isplitl [HO]; · iexact HO
    isplitl [K3]; · iexact K3
    isplitl [R3]; · iexact R3
    iexact D3
  iintro ⟨HO, P3⟩
  iapply (step_load m c) $$ Hx; iintro Hx
  iapply (step_quarter m c 2 (by decide) ∅ (off := k0_off5 c) (off' := k0_off4 c) (inb' := k0_off4_inb c) (off_q2 c).2 (off_q2 c).1 (pay5 _)) $$ Hf
  iintro Hf
  iapply (step_load m c) $$ Hx; iintro Hx
  iapply (step_quarter m c 1 (by decide) (insert 2 ∅) (off := k0_off7 c) (off' := k0_off6 c) (inb' := k0_off6_inb c) (off_q1 c).2 (off_q1 c).1 (pay6 _)) $$ Hf
  iintro Hf
  iapply (step_load m c) $$ Hx; iintro Hx
  iapply (step_quarter m c 3 (by decide) (insert 1 (insert 2 ∅)) (off := k0_off9 c) (off' := k0_off8 c) (inb' := k0_off8_inb c) (off_q3 c).2 (off_q3 c).1 (pay7 _)) $$ Hf
  iintro Hf
  rw [wp_ret]; imodintro
  iapply Hk
  isplitl [HO]; · iexact HO
  isplitl [P3]; · iexact P3
  isplitl [Hx]; · iexact Hx
  iexact Hf

set_option maxHeartbeats 1600000 in
set_option maxRecDepth 100000 in
/-- Chunk 0 arrived over y, sent on over x and over z. -/
theorem part6 {Kt : PUnit → sProp 𝕄} (v2 v5 v8 v10 v11 v14 v36 v40 : BitVec 32) :
    iprop(recs m K ∗ Ow c (dues c 4) ∗ pend c (true, 0) ∗ kit c 4 ∗ room c 4 ∗ kit c 5 ∗ room c 5)
      ⊢ iprop(((Ow c (dues c 6) ∗ semVal (rv c 0) 0 ∗ pend c (false, 4) ∗ pend c (false, 5)) -∗ Kt ⟨⟩)
          -∗ wp frame (wpE (defs₀ (F := F)) 𝒱₀ (c : Thread nD τ) none) Set.univ (k0_part6 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v5 v8 v10 v11 v14 v36 v40) Kt) := by
  rw [k0_part6_eq_skeleton]; unfold k0_part6_skel
  simp only [semSignalWord, semWaitWord, Prog.lift, Prog.bind_op, Prog.bind_ret, Prog.pure_eq_ret, wp_deviceId]
  iintro ⟨#HR, HO, V0, K4, R4, K5, R5⟩ Hk
  iapply (step_wait m K c (true, 0) 4 (by decide) rfl) $$ [HO V0]
  · isplitr; · iexact HR
    isplitl [HO]; · iexact HO
    iexact V0
  iintro ⟨HO, G0⟩
  ihave Hg := (got_halves m c 0 0 4 5 rfl rfl rfl) $$ G0
  icases Hg with ⟨D4, D5, Z0⟩
  iapply (step_send' m K c 4 4 5 rfl rfl (dev_4 c) rfl rfl (off := k0_off10 c 0#32) (off_ax c 0)) $$ [HO K4 R4 D4]
  · isplitr; · iexact HR
    isplitl [HO]; · iexact HO
    isplitl [K4]; · iexact K4
    isplitl [R4]; · iexact R4
    iexact D4
  iintro ⟨HO, P4⟩
  iapply (step_send' m K c 5 5 6 rfl rfl (dev_5 c) rfl rfl (off := k0_off10 c 0#32) (off_az c 0)) $$ [HO K5 R5 D5]
  · isplitr; · iexact HR
    isplitl [HO]; · iexact HO
    isplitl [K5]; · iexact K5
    isplitl [R5]; · iexact R5
    iexact D5
  iintro ⟨HO, P5⟩
  rw [wp_ret]; imodintro
  iapply Hk
  isplitl [HO]; · iexact HO
  isplitl [Z0]; · iexact Z0
  isplitl [P4]; · iexact P4
  iexact P5

set_option maxHeartbeats 1600000 in
set_option maxRecDepth 100000 in
/-- Chunk 1 arrived over y, sent on over x and over z. -/
theorem part7 {Kt : (Σ' (v236 : BitVec 32), BitVec 32) → sProp 𝕄} (v2 v5 v8 v10 v11 v14 v36 v40 : BitVec 32) :
    iprop(recs m K ∗ Ow c (dues c 6) ∗ pend c (true, 1) ∗ kit c 6 ∗ room c 6 ∗ kit c 7 ∗ room c 7)
      ⊢ iprop((∀ (v236 v237 : BitVec 32), (Ow c (dues c 8) ∗ semVal (rv c 1) 0 ∗ pend c (false, 6) ∗ pend c (false, 7)) -∗ Kt ⟨v236, v237⟩)
          -∗ wp frame (wpE (defs₀ (F := F)) 𝒱₀ (c : Thread nD τ) none) Set.univ (k0_part7 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v5 v8 v10 v11 v14 v36 v40) Kt) := by
  rw [k0_part7_eq_skeleton]; unfold k0_part7_skel
  simp only [semSignalWord, semWaitWord, Prog.lift, Prog.bind_op, Prog.bind_ret, Prog.pure_eq_ret, wp_deviceId]
  iintro ⟨#HR, HO, V1, K6, R6, K7, R7⟩ Hk
  iapply (step_wait m K c (true, 1) 6 (by decide) rfl) $$ [HO V1]
  · isplitr; · iexact HR
    isplitl [HO]; · iexact HO
    iexact V1
  iintro ⟨HO, G1⟩
  ihave Hg := (got_halves m c 1 1 6 7 rfl rfl rfl) $$ G1
  icases Hg with ⟨D6, D7, Z1⟩
  iapply (step_send' m K c 6 6 7 rfl rfl (dev_6 c) rfl rfl (off := k0_off10 c 128#32) (off_ax c 1)) $$ [HO K6 R6 D6]
  · isplitr; · iexact HR
    isplitl [HO]; · iexact HO
    isplitl [K6]; · iexact K6
    isplitl [R6]; · iexact R6
    iexact D6
  iintro ⟨HO, P6⟩
  iapply (step_send' m K c 7 7 8 rfl rfl (dev_7 c) rfl rfl (off := k0_off10 c 128#32) (off_az c 1)) $$ [HO K7 R7 D7]
  · isplitr; · iexact HR
    isplitl [HO]; · iexact HO
    isplitl [K7]; · iexact K7
    isplitl [R7]; · iexact R7
    iexact D7
  iintro ⟨HO, P7⟩
  rw [wp_ret]; imodintro
  iapply Hk
  isplitl [HO]; · iexact HO
  isplitl [Z1]; · iexact Z1
  isplitl [P6]; · iexact P6
  iexact P7

set_option maxHeartbeats 1600000 in
set_option maxRecDepth 100000 in
/-- Chunk 2 arrived over y, sent on over x and over z. -/
theorem part8 {Kt : BitVec 32 → sProp 𝕄} (v2 v5 v8 v11 v14 v36 v40 v236 v237 : BitVec 32) :
    iprop(recs m K ∗ Ow c (dues c 8) ∗ pend c (true, 2) ∗ kit c 8 ∗ room c 8 ∗ kit c 9 ∗ room c 9)
      ⊢ iprop((∀ (v271 : BitVec 32), (Ow c (dues c 10) ∗ semVal (rv c 2) 0 ∗ pend c (false, 8) ∗ pend c (false, 9)) -∗ Kt v271)
          -∗ wp frame (wpE (defs₀ (F := F)) 𝒱₀ (c : Thread nD τ) none) Set.univ (k0_part8 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v5 v8 v11 v14 v36 v40 v236 v237) Kt) := by
  rw [k0_part8_eq_skeleton]; unfold k0_part8_skel
  simp only [semSignalWord, semWaitWord, Prog.lift, Prog.bind_op, Prog.bind_ret, Prog.pure_eq_ret, wp_deviceId]
  iintro ⟨#HR, HO, V2, K8, R8, K9, R9⟩ Hk
  iapply (step_wait m K c (true, 2) 8 (by decide) rfl) $$ [HO V2]
  · isplitr; · iexact HR
    isplitl [HO]; · iexact HO
    iexact V2
  iintro ⟨HO, G2⟩
  ihave Hg := (got_halves m c 2 2 8 9 rfl rfl rfl) $$ G2
  icases Hg with ⟨D8, D9, Z2⟩
  iapply (step_send' m K c 8 8 9 rfl rfl (dev_8 c) rfl rfl (off := k0_off10 c 256#32) (off_ax c 2)) $$ [HO K8 R8 D8]
  · isplitr; · iexact HR
    isplitl [HO]; · iexact HO
    isplitl [K8]; · iexact K8
    isplitl [R8]; · iexact R8
    iexact D8
  iintro ⟨HO, P8⟩
  iapply (step_send' m K c 9 9 10 rfl rfl (dev_9 c) rfl rfl (off := k0_off10 c 256#32) (off_az c 2)) $$ [HO K9 R9 D9]
  · isplitr; · iexact HR
    isplitl [HO]; · iexact HO
    isplitl [K9]; · iexact K9
    isplitl [R9]; · iexact R9
    iexact D9
  iintro ⟨HO, P9⟩
  rw [wp_ret]; imodintro
  iapply Hk
  isplitl [HO]; · iexact HO
  isplitl [Z2]; · iexact Z2
  isplitl [P8]; · iexact P8
  iexact P9

set_option maxHeartbeats 1600000 in
set_option maxRecDepth 100000 in
/-- Chunk 3 arrived over y, sent on over x and over z. -/
theorem part9 {Kt : PUnit → sProp 𝕄} (v2 v5 v8 v10 v11 v14 v36 v40 v271 : BitVec 32) :
    iprop(recs m K ∗ Ow c (dues c 10) ∗ pend c (true, 3) ∗ kit c 10 ∗ room c 10 ∗ kit c 11 ∗ room c 11)
      ⊢ iprop(((Ow c (dues c 12) ∗ semVal (rv c 3) 0 ∗ pend c (false, 10) ∗ pend c (false, 11)) -∗ Kt ⟨⟩)
          -∗ wp frame (wpE (defs₀ (F := F)) 𝒱₀ (c : Thread nD τ) none) Set.univ (k0_part9 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v5 v8 v10 v11 v14 v36 v40 v271) Kt) := by
  rw [k0_part9_eq_skeleton]; unfold k0_part9_skel
  simp only [semSignalWord, semWaitWord, Prog.lift, Prog.bind_op, Prog.bind_ret, Prog.pure_eq_ret, wp_deviceId]
  iintro ⟨#HR, HO, V3, K10, R10, K11, R11⟩ Hk
  iapply (step_wait m K c (true, 3) 10 (by decide) rfl) $$ [HO V3]
  · isplitr; · iexact HR
    isplitl [HO]; · iexact HO
    iexact V3
  iintro ⟨HO, G3⟩
  ihave Hg := (got_halves m c 3 3 10 11 rfl rfl rfl) $$ G3
  icases Hg with ⟨D10, D11, Z3⟩
  iapply (step_send' m K c 10 10 11 rfl rfl (dev_10 c) rfl rfl (off := k0_off10 c 384#32) (off_ax c 3)) $$ [HO K10 R10 D10]
  · isplitr; · iexact HR
    isplitl [HO]; · iexact HO
    isplitl [K10]; · iexact K10
    isplitl [R10]; · iexact R10
    iexact D10
  iintro ⟨HO, P10⟩
  iapply (step_send' m K c 11 11 12 rfl rfl (dev_11 c) rfl rfl (off := k0_off10 c 384#32) (off_az c 3)) $$ [HO K11 R11 D11]
  · isplitr; · iexact HR
    isplitl [HO]; · iexact HO
    isplitl [K11]; · iexact K11
    isplitl [R11]; · iexact R11
    iexact D11
  iintro ⟨HO, P11⟩
  rw [wp_ret]; imodintro
  iapply Hk
  isplitl [HO]; · iexact HO
  isplitl [Z3]; · iexact Z3
  isplitl [P10]; · iexact P10
  iexact P11

set_option maxHeartbeats 1600000 in
set_option maxRecDepth 100000 in
/-- A chunk arrived over z, sent on over x. -/
theorem part10 {Kt : PUnit → sProp 𝕄} (v2 v5 v8 v10 v11 v36 v50 : BitVec 32) :
    iprop(recs m K ∗ Ow c (dues c 12) ∗ pend c (true, 5) ∗ kit c 12 ∗ room c 12)
      ⊢ iprop(((Ow c (dues c 13) ∗ semVal (rv c 5) 0 ∗ pend c (false, 12)) -∗ Kt ⟨⟩)
          -∗ wp frame (wpE (defs₀ (F := F)) 𝒱₀ (c : Thread nD τ) none) Set.univ (k0_part10 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v5 v8 v10 v11 v36 v50) Kt) := by
  rw [k0_part10_eq_skeleton]; unfold k0_part10_skel
  simp only [semSignalWord, semWaitWord, Prog.lift, Prog.bind_op, Prog.bind_ret, Prog.pure_eq_ret, wp_deviceId]
  iintro ⟨#HR, HO, V5, K12, R12⟩ Hk
  iapply (step_wait m K c (true, 5) 12 (by decide) rfl) $$ [HO V5]
  · isplitr; · iexact HR
    isplitl [HO]; · iexact HO
    iexact V5
  iintro ⟨HO, G5⟩
  ihave Hg := (got_whole m c 12 5 (by decide) rfl) $$ G5
  icases Hg with ⟨D12, Z5⟩
  iapply (step_send' m K c 12 12 13 rfl rfl (dev_12 c) rfl rfl (off := k0_off12 c 0#32) (off_bx c 0)) $$ [HO K12 R12 D12]
  · isplitr; · iexact HR
    isplitl [HO]; · iexact HO
    isplitl [K12]; · iexact K12
    isplitl [R12]; · iexact R12
    iexact D12
  iintro ⟨HO, P12⟩
  rw [wp_ret]; imodintro
  iapply Hk
  isplitl [HO]; · iexact HO
  isplitl [Z5]; · iexact Z5
  iexact P12

set_option maxHeartbeats 1600000 in
set_option maxRecDepth 100000 in
/-- A second sent on over x, and the arrival over x of one to be sent on over z. -/
theorem part11 {Kt : PUnit → sProp 𝕄} (v2 v5 v8 v10 v11 v14 v36 v45 v50 : BitVec 32) :
    iprop(recs m K ∗ Ow c (dues c 13) ∗ pend c (true, 7) ∗ kit c 13 ∗ room c 13 ∗ pend c (true, 8))
      ⊢ iprop(((Ow c (dues c 14) ∗ semVal (rv c 7) 0 ∗ pend c (false, 13) ∗ sdPay m c 14 ∗ semVal (rv c 8) 0) -∗ Kt ⟨⟩)
          -∗ wp frame (wpE (defs₀ (F := F)) 𝒱₀ (c : Thread nD τ) none) Set.univ (k0_part11 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v5 v8 v10 v11 v14 v36 v45 v50) Kt) := by
  rw [k0_part11_eq_skeleton]; unfold k0_part11_skel
  simp only [semSignalWord, semWaitWord, Prog.lift, Prog.bind_op, Prog.bind_ret, Prog.pure_eq_ret, wp_deviceId]
  iintro ⟨#HR, HO, V7, K13, R13, V8⟩ Hk
  iapply (step_wait m K c (true, 7) 13 (by decide) rfl) $$ [HO V7]
  · isplitr; · iexact HR
    isplitl [HO]; · iexact HO
    iexact V7
  iintro ⟨HO, G7⟩
  ihave Hg := (got_whole m c 13 7 (by decide) rfl) $$ G7
  icases Hg with ⟨D13, Z7⟩
  iapply (step_send' m K c 13 13 14 rfl rfl (dev_13 c) rfl rfl (off := k0_off12 c 128#32) (off_bx c 1)) $$ [HO K13 R13 D13]
  · isplitr; · iexact HR
    isplitl [HO]; · iexact HO
    isplitl [K13]; · iexact K13
    isplitl [R13]; · iexact R13
    iexact D13
  iintro ⟨HO, P13⟩
  iapply (step_wait m K c (true, 8) 14 (by decide) rfl) $$ [HO V8]
  · isplitr; · iexact HR
    isplitl [HO]; · iexact HO
    iexact V8
  iintro ⟨HO, G8⟩
  ihave Hg := (got_whole m c 14 8 (by decide) rfl) $$ G8
  icases Hg with ⟨D14, Z8⟩
  rw [wp_ret]; imodintro
  iapply Hk
  isplitl [HO]; · iexact HO
  isplitl [Z7]; · iexact Z7
  isplitl [P13]; · iexact P13
  isplitl [D14]; · iexact D14
  iexact Z8

set_option maxHeartbeats 1600000 in
set_option maxRecDepth 100000 in
/-- It sent on over z, and a second arrived over x and sent on. -/
theorem part12 {Kt : (Σ' (v404 : BitVec 32), BitVec 32) → sProp 𝕄} (v2 v5 v8 v10 v14 v36 v45 : BitVec 32) :
    iprop(recs m K ∗ Ow c (dues c 14) ∗ sdPay m c 14 ∗ kit c 14 ∗ room c 14 ∗ pend c (true, 10) ∗ kit c 15 ∗ room c 15)
      ⊢ iprop((∀ (v404 v405 : BitVec 32), (Ow c (dues c 16) ∗ pend c (false, 14) ∗ semVal (rv c 10) 0 ∗ pend c (false, 15)) -∗ Kt ⟨v404, v405⟩)
          -∗ wp frame (wpE (defs₀ (F := F)) 𝒱₀ (c : Thread nD τ) none) Set.univ (k0_part12 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v5 v8 v10 v14 v36 v45) Kt) := by
  rw [k0_part12_eq_skeleton]; unfold k0_part12_skel
  simp only [semSignalWord, semWaitWord, Prog.lift, Prog.bind_op, Prog.bind_ret, Prog.pure_eq_ret, wp_deviceId]
  iintro ⟨#HR, HO, D14, K14, R14, V10, K15, R15⟩ Hk
  iapply (step_send' m K c 14 14 15 rfl rfl (dev_14 c) rfl rfl (off := k0_off13 c 256#32) (off_bz c 0)) $$ [HO K14 R14 D14]
  · isplitr; · iexact HR
    isplitl [HO]; · iexact HO
    isplitl [K14]; · iexact K14
    isplitl [R14]; · iexact R14
    iexact D14
  iintro ⟨HO, P14⟩
  iapply (step_wait m K c (true, 10) 15 (by decide) rfl) $$ [HO V10]
  · isplitr; · iexact HR
    isplitl [HO]; · iexact HO
    iexact V10
  iintro ⟨HO, G10⟩
  ihave Hg := (got_whole m c 15 10 (by decide) rfl) $$ G10
  icases Hg with ⟨D15, Z10⟩
  iapply (step_send' m K c 15 15 16 rfl rfl (dev_15 c) rfl rfl (off := k0_off13 c 384#32) (off_bz c 1)) $$ [HO K15 R15 D15]
  · isplitr; · iexact HR
    isplitl [HO]; · iexact HO
    isplitl [K15]; · iexact K15
    isplitl [R15]; · iexact R15
    iexact D15
  iintro ⟨HO, P15⟩
  rw [wp_ret]; imodintro
  iapply Hk
  isplitl [HO]; · iexact HO
  isplitl [P14]; · iexact P14
  isplitl [Z10]; · iexact Z10
  iexact P15

set_option maxHeartbeats 1600000 in
set_option maxRecDepth 100000 in
/-- Three arrivals. -/
theorem part13 {Kt : (Σ' (v436 : BitVec 32), BitVec 32) → sProp 𝕄} (v2 v8 v10 v404 v405 : BitVec 32) :
    iprop(recs m K ∗ Ow c (dues c 16) ∗ pend c (true, 4) ∗ pend c (true, 6) ∗ pend c (true, 9))
      ⊢ iprop((∀ (v436 v437 : BitVec 32), (Ow c (dues c 16) ∗ got m c (true, 4) ∗ got m c (true, 6) ∗ got m c (true, 9)) -∗ Kt ⟨v436, v437⟩)
          -∗ wp frame (wpE (defs₀ (F := F)) 𝒱₀ (c : Thread nD τ) none) Set.univ (k0_part13 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v8 v10 v404 v405) Kt) := by
  rw [k0_part13_eq_skeleton]; unfold k0_part13_skel
  simp only [semSignalWord, semWaitWord, Prog.lift, Prog.bind_op, Prog.bind_ret, Prog.pure_eq_ret, wp_deviceId]
  iintro ⟨#HR, HO, V4, V6, V9⟩ Hk
  iapply (step_wait m K c (true, 4) 16 (by decide) rfl) $$ [HO V4]
  · isplitr; · iexact HR
    isplitl [HO]; · iexact HO
    iexact V4
  iintro ⟨HO, G4⟩
  iapply (step_wait m K c (true, 6) 16 (by decide) rfl) $$ [HO V6]
  · isplitr; · iexact HR
    isplitl [HO]; · iexact HO
    iexact V6
  iintro ⟨HO, G6⟩
  iapply (step_wait m K c (true, 9) 16 (by decide) rfl) $$ [HO V9]
  · isplitr; · iexact HR
    isplitl [HO]; · iexact HO
    iexact V9
  iintro ⟨HO, G9⟩
  rw [wp_ret]; imodintro
  iapply Hk
  isplitl [HO]; · iexact HO
  isplitl [G4]; · iexact G4
  isplitl [G6]; · iexact G6
  iexact G9

set_option maxHeartbeats 1600000 in
set_option maxRecDepth 100000 in
/-- Three more. -/
theorem part14 {Kt : PUnit → sProp 𝕄} (v2 v8 v10 v436 v437 : BitVec 32) :
    iprop(recs m K ∗ Ow c (dues c 16) ∗ pend c (true, 11) ∗ pend c (true, 12) ∗ pend c (true, 13))
      ⊢ iprop(((Ow c (dues c 16) ∗ got m c (true, 11) ∗ got m c (true, 12) ∗ got m c (true, 13)) -∗ Kt ⟨⟩)
          -∗ wp frame (wpE (defs₀ (F := F)) 𝒱₀ (c : Thread nD τ) none) Set.univ (k0_part14 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v8 v10 v436 v437) Kt) := by
  rw [k0_part14_eq_skeleton]; unfold k0_part14_skel
  simp only [semSignalWord, semWaitWord, Prog.lift, Prog.bind_op, Prog.bind_ret, Prog.pure_eq_ret, wp_deviceId]
  iintro ⟨#HR, HO, V11, V12, V13⟩ Hk
  iapply (step_wait m K c (true, 11) 16 (by decide) rfl) $$ [HO V11]
  · isplitr; · iexact HR
    isplitl [HO]; · iexact HO
    iexact V11
  iintro ⟨HO, G11⟩
  iapply (step_wait m K c (true, 12) 16 (by decide) rfl) $$ [HO V12]
  · isplitr; · iexact HR
    isplitl [HO]; · iexact HO
    iexact V12
  iintro ⟨HO, G12⟩
  iapply (step_wait m K c (true, 13) 16 (by decide) rfl) $$ [HO V13]
  · isplitr; · iexact HR
    isplitl [HO]; · iexact HO
    iexact V13
  iintro ⟨HO, G13⟩
  rw [wp_ret]; imodintro
  iapply Hk
  isplitl [HO]; · iexact HO
  isplitl [G11]; · iexact G11
  isplitl [G12]; · iexact G12
  iexact G13

set_option maxHeartbeats 1600000 in
set_option maxRecDepth 100000 in
/-- The last two, and the ends of three sends. -/
theorem part15 {Kt : PUnit → sProp 𝕄} (v2 v8 v10 : BitVec 32) :
    iprop(recs m K ∗ Ow c (dues c 16) ∗ pend c (true, 14) ∗ pend c (true, 15) ∗ pend c (false, 0) ∗ pend c (false, 4) ∗ pend c (false, 5))
      ⊢ iprop(((Ow c (dues c 16) ∗ got m c (true, 14) ∗ got m c (true, 15) ∗ got m c (false, 0) ∗ got m c (false, 4) ∗ got m c (false, 5)) -∗ Kt ⟨⟩)
          -∗ wp frame (wpE (defs₀ (F := F)) 𝒱₀ (c : Thread nD τ) none) Set.univ (k0_part15 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c v2 v8 v10) Kt) := by
  rw [k0_part15_eq_skeleton]; unfold k0_part15_skel
  simp only [semSignalWord, semWaitWord, Prog.lift, Prog.bind_op, Prog.bind_ret, Prog.pure_eq_ret, wp_deviceId]
  iintro ⟨#HR, HO, V14, V15, P0, P4, P5⟩ Hk
  iapply (step_wait m K c (true, 14) 16 (by decide) rfl) $$ [HO V14]
  · isplitr; · iexact HR
    isplitl [HO]; · iexact HO
    iexact V14
  iintro ⟨HO, G14⟩
  iapply (step_wait m K c (true, 15) 16 (by decide) rfl) $$ [HO V15]
  · isplitr; · iexact HR
    isplitl [HO]; · iexact HO
    iexact V15
  iintro ⟨HO, G15⟩
  iapply (step_wait m K c (false, 0) 16 (by decide) rfl) $$ [HO P0]
  · isplitr; · iexact HR
    isplitl [HO]; · iexact HO
    iexact P0
  iintro ⟨HO, G0s⟩
  iapply (step_wait m K c (false, 4) 16 (by decide) rfl) $$ [HO P4]
  · isplitr; · iexact HR
    isplitl [HO]; · iexact HO
    iexact P4
  iintro ⟨HO, G4s⟩
  iapply (step_wait m K c (false, 5) 16 (by decide) rfl) $$ [HO P5]
  · isplitr; · iexact HR
    isplitl [HO]; · iexact HO
    iexact P5
  iintro ⟨HO, G5s⟩
  rw [wp_ret]; imodintro
  iapply Hk
  isplitl [HO]; · iexact HO
  isplitl [G14]; · iexact G14
  isplitl [G15]; · iexact G15
  isplitl [G0s]; · iexact G0s
  isplitl [G4s]; · iexact G4s
  iexact G5s

set_option maxHeartbeats 1600000 in
set_option maxRecDepth 100000 in
/-- The ends of six sends. -/
theorem part16 {Kt : PUnit → sProp 𝕄} :
    iprop(recs m K ∗ Ow c (dues c 16) ∗ pend c (false, 1) ∗ pend c (false, 6) ∗ pend c (false, 7) ∗ pend c (false, 2) ∗ pend c (false, 8) ∗ pend c (false, 9))
      ⊢ iprop(((Ow c (dues c 16) ∗ got m c (false, 1) ∗ got m c (false, 6) ∗ got m c (false, 7) ∗ got m c (false, 2) ∗ got m c (false, 8) ∗ got m c (false, 9)) -∗ Kt ⟨⟩)
          -∗ wp frame (wpE (defs₀ (F := F)) 𝒱₀ (c : Thread nD τ) none) Set.univ (k0_part16 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c) Kt) := by
  rw [k0_part16_eq_skeleton]; unfold k0_part16_skel
  simp only [semSignalWord, semWaitWord, Prog.lift, Prog.bind_op, Prog.bind_ret, Prog.pure_eq_ret, wp_deviceId]
  iintro ⟨#HR, HO, P1, P6, P7, P2, P8, P9⟩ Hk
  iapply (step_wait m K c (false, 1) 16 (by decide) rfl) $$ [HO P1]
  · isplitr; · iexact HR
    isplitl [HO]; · iexact HO
    iexact P1
  iintro ⟨HO, G1s⟩
  iapply (step_wait m K c (false, 6) 16 (by decide) rfl) $$ [HO P6]
  · isplitr; · iexact HR
    isplitl [HO]; · iexact HO
    iexact P6
  iintro ⟨HO, G6s⟩
  iapply (step_wait m K c (false, 7) 16 (by decide) rfl) $$ [HO P7]
  · isplitr; · iexact HR
    isplitl [HO]; · iexact HO
    iexact P7
  iintro ⟨HO, G7s⟩
  iapply (step_wait m K c (false, 2) 16 (by decide) rfl) $$ [HO P2]
  · isplitr; · iexact HR
    isplitl [HO]; · iexact HO
    iexact P2
  iintro ⟨HO, G2s⟩
  iapply (step_wait m K c (false, 8) 16 (by decide) rfl) $$ [HO P8]
  · isplitr; · iexact HR
    isplitl [HO]; · iexact HO
    iexact P8
  iintro ⟨HO, G8s⟩
  iapply (step_wait m K c (false, 9) 16 (by decide) rfl) $$ [HO P9]
  · isplitr; · iexact HR
    isplitl [HO]; · iexact HO
    iexact P9
  iintro ⟨HO, G9s⟩
  rw [wp_ret]; imodintro
  iapply Hk
  isplitl [HO]; · iexact HO
  isplitl [G1s]; · iexact G1s
  isplitl [G6s]; · iexact G6s
  isplitl [G7s]; · iexact G7s
  isplitl [G2s]; · iexact G2s
  isplitl [G8s]; · iexact G8s
  iexact G9s

set_option maxHeartbeats 1600000 in
set_option maxRecDepth 100000 in
/-- The ends of six more. -/
theorem part17 {Kt : PUnit → sProp 𝕄} :
    iprop(recs m K ∗ Ow c (dues c 16) ∗ pend c (false, 3) ∗ pend c (false, 10) ∗ pend c (false, 11) ∗ pend c (false, 12) ∗ pend c (false, 14) ∗ pend c (false, 13))
      ⊢ iprop(((Ow c (dues c 16) ∗ got m c (false, 3) ∗ got m c (false, 10) ∗ got m c (false, 11) ∗ got m c (false, 12) ∗ got m c (false, 14) ∗ got m c (false, 13)) -∗ Kt ⟨⟩)
          -∗ wp frame (wpE (defs₀ (F := F)) 𝒱₀ (c : Thread nD τ) none) Set.univ (k0_part17 (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9 c) Kt) := by
  rw [k0_part17_eq_skeleton]; unfold k0_part17_skel
  simp only [semSignalWord, semWaitWord, Prog.lift, Prog.bind_op, Prog.bind_ret, Prog.pure_eq_ret, wp_deviceId]
  iintro ⟨#HR, HO, P3, P10, P11, P12, P14, P13⟩ Hk
  iapply (step_wait m K c (false, 3) 16 (by decide) rfl) $$ [HO P3]
  · isplitr; · iexact HR
    isplitl [HO]; · iexact HO
    iexact P3
  iintro ⟨HO, G3s⟩
  iapply (step_wait m K c (false, 10) 16 (by decide) rfl) $$ [HO P10]
  · isplitr; · iexact HR
    isplitl [HO]; · iexact HO
    iexact P10
  iintro ⟨HO, G10s⟩
  iapply (step_wait m K c (false, 11) 16 (by decide) rfl) $$ [HO P11]
  · isplitr; · iexact HR
    isplitl [HO]; · iexact HO
    iexact P11
  iintro ⟨HO, G11s⟩
  iapply (step_wait m K c (false, 12) 16 (by decide) rfl) $$ [HO P12]
  · isplitr; · iexact HR
    isplitl [HO]; · iexact HO
    iexact P12
  iintro ⟨HO, G12s⟩
  iapply (step_wait m K c (false, 14) 16 (by decide) rfl) $$ [HO P14]
  · isplitr; · iexact HR
    isplitl [HO]; · iexact HO
    iexact P14
  iintro ⟨HO, G14s⟩
  iapply (step_wait m K c (false, 13) 16 (by decide) rfl) $$ [HO P13]
  · isplitr; · iexact HR
    isplitl [HO]; · iexact HO
    iexact P13
  iintro ⟨HO, G13s⟩
  rw [wp_ret]; imodintro
  iapply Hk
  isplitl [HO]; · iexact HO
  isplitl [G3s]; · iexact G3s
  isplitl [G10s]; · iexact G10s
  isplitl [G11s]; · iexact G11s
  isplitl [G12s]; · iexact G12s
  isplitl [G14s]; · iexact G14s
  iexact G13s

end Cert.KernelIdeal.Gather

end
-- ==== Proof.Ideal.Whole.lean ====
/-
The whole body: the result buffer cut for the handshakes, the parts run one after another, and the result put together.
-/
module

public import proofs.«01_k».proof.Proof.Ideal.Body

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Families by lists -/

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## What a device starts and ends with -/

/-- Its positions, and the tokens of the duties it pays. -/
def lin (c : Dev nD) : sProp 𝕄 :=
  iprop(atPos ER (bar c) 0 ∅ 0 ∗ (bigSep Finset.univ fun n : Fin 16 => atPos ER (rv c n) 0 ∅ 0) ∗ (bigSep Finset.univ fun n : Fin 16 => kit c n)
    ∗ bigSep Finset.univ fun d : Fin 3 => dutyTok ER (bar (nbr d c)) 0 d)
/-- What it is promised. -/
def creds (c : Dev nD) : sProp 𝕄 :=
  iprop(cred (tallyAt (bar c) () 3) ∗ bigSep Finset.univ fun n : Fin 16 => cred (tallyAt (rv c n) () N))
/-- Its semaphores, all at zero. -/
def zeros (c : Dev nD) : sProp 𝕄 :=
  iprop(semVal (bar c) 0 ∗ (bigSep Finset.univ fun n : Fin 16 => semVal (sd c n) 0) ∗ bigSep Finset.univ fun n : Fin 16 => semVal (rv c n) 0)

/-- The result buffer cut: the places for each neighbour's transfers, the four chunks to be sent, the rest. -/
theorem cut_out (f : OC F) :
    pt c Finset.univ fullShare f
      ⊢ iprop(places c 0 ∗ places c 1 ∗ places c 2 ∗ own c 0 ∗ own c 1 ∗ own c 2 ∗ own c 3 ∗ filled m c ∅) := by
  have h0 (n : Fin 16) : (pt c (rows (lnd c n)) fullShare f : sProp 𝕄) ⊢ iprop(∃ f : OC F, pt c (rows (lnd c n)) fullShare f) := by
    iintro H; iexists f; iexact H
  have hp : (bigSep Finset.univ fun n : Fin 16 => (pt c (rows (lnd c n)) fullShare f : sProp 𝕄))
      ⊢ iprop(places c 0 ∗ places c 1 ∗ places c 2) := by
    rw [← by_dir, bigSep_fin3]
    have h (d : Fin 3) : (bigSep (Finset.univ.filter fun n => dir n = d) fun n => (pt c (rows (lnd c n)) fullShare f : sProp 𝕄)) ⊢ places c d :=
      bigSep_mono fun n _ => h0 n
    iintro ⟨H0, H1, H2⟩
    isplitl [H0]; · iapply (h 0); iexact H0
    isplitl [H1]; · iapply (h 1); iexact H1
    iapply (h 2); iexact H2
  have ho (n : Fin 16) : (pt c (rows (snd c n)) fullShare f : sProp 𝕄) ⊢ own c n := by
    unfold own; iintro H; iexists f; iexact H
  rw [pieces, bigSep_fin4]
  iintro ⟨⟨Hl, H0, H1, H2, H3⟩, Hr⟩
  ihave Hp := hp $$ Hl
  icases Hp with ⟨P0, P1, P2⟩
  isplitl [P0]; · iexact P0
  isplitl [P1]; · iexact P1
  isplitl [P2]; · iexact P2
  isplitl [H0]; · iapply (ho 0); iexact H0
  isplitl [H1]; · iapply (ho 1); iexact H1
  isplitl [H2]; · iapply (ho 2); iexact H2
  isplitl [H3]; · iapply (ho 3); iexact H3
  unfold filled
  iexists f
  isplitr
  · ipureintro
    intro i hi j hj
    exact absurd hj (Finset.notMem_empty j)
  iexact Hr

/-- A chunk forwarded in two halves is whole again when both have been sent; -/
theorem back_halves (j a b : Fin 16) (hj : j.val < 4) (ha : a = ⟨4 + 2 * (j.val % 4), by omega⟩) (hb : b = ⟨5 + 2 * (j.val % 4), by omega⟩) :
    iprop(sdPay m c a ∗ sdPay m c b) ⊢ rvPay m c j := by
  subst ha hb
  have h := fwd_halves m c ⟨j.val % 4, by omega⟩
  have e : (⟨j.val % 4, by omega⟩ : Fin 16) = j := Fin.ext (Nat.mod_eq_of_lt hj)
  show _ ⊢ _
  rw [← h, e]
/-- and one forwarded whole when it has been sent. -/
theorem back_whole (n v : Fin 16) (hn : 12 ≤ n.val) (hv : v = via n) : sdPay m c n ⊢ rvPay m c v := by
  subst hv; rw [fwd_whole m c n hn]

/-- What a device has when a send has ended, and when a chunk has arrived. -/
theorem got_sd (n : Fin 16) : got m c (false, n) ⊢ iprop(sdPay m c n ∗ semVal (sd c n) 0) := Entails.of_eq rfl
theorem got_rv (n : Fin 16) : got m c (true, n) ⊢ iprop(rvPay m c n ∗ semVal (rv c n) 0) := Entails.of_eq rfl

/-- The quarters stored, in the order they are stored, are all three. -/
theorem filled_all' : filled m c (insert 3 (insert 1 (insert 2 ∅))) ⊢ pt c (restSet c) fullShare (full m c) := by
  have e : (insert 3 (insert 1 (insert 2 ∅)) : Finset (Fin 4)) = {1, 2, 3} := by decide
  rw [e]; exact filled_all m c

/-- The result put together: what came back from the sends, what arrived and was not sent on, and what was stored. -/
theorem put_out :
    iprop(sdPay m c 0 ∗ sdPay m c 1 ∗ sdPay m c 2 ∗ sdPay m c 3 ∗ sdPay m c 4 ∗ sdPay m c 5 ∗ sdPay m c 6 ∗ sdPay m c 7 ∗ sdPay m c 8 ∗ sdPay m c 9 ∗ sdPay m c 10 ∗ sdPay m c 11 ∗ sdPay m c 12 ∗ sdPay m c 13 ∗ sdPay m c 14 ∗ sdPay m c 15 ∗ rvPay m c 4 ∗ rvPay m c 6 ∗ rvPay m c 9 ∗ rvPay m c 11 ∗ rvPay m c 12 ∗ rvPay m c 13 ∗ rvPay m c 14 ∗ rvPay m c 15 ∗ filled m c (insert 3 (insert 1 (insert 2 ∅))))
      ⊢ pt c Finset.univ fullShare (full m c) := by
  rw [pieces, bigSep_fin4, bigSep_fin16]
  iintro ⟨S0, S1, S2, S3, S4, S5, S6, S7, S8, S9, S10, S11, S12, S13, S14, S15, A4, A6, A9, A11, A12, A13, A14, A15, Hf⟩
  ihave A0 := (back_halves m c 0 4 5 (by decide) rfl rfl) $$ [S4 S5]
  · isplitl [S4] <;> iassumption
  ihave A1 := (back_halves m c 1 6 7 (by decide) rfl rfl) $$ [S6 S7]
  · isplitl [S6] <;> iassumption
  ihave A2 := (back_halves m c 2 8 9 (by decide) rfl rfl) $$ [S8 S9]
  · isplitl [S8] <;> iassumption
  ihave A3 := (back_halves m c 3 10 11 (by decide) rfl rfl) $$ [S10 S11]
  · isplitl [S10] <;> iassumption
  ihave A5 := (back_whole m c 12 5 (by decide) rfl) $$ S12
  ihave A7 := (back_whole m c 13 7 (by decide) rfl) $$ S13
  ihave A8 := (back_whole m c 14 8 (by decide) rfl) $$ S14
  ihave A10 := (back_whole m c 15 10 (by decide) rfl) $$ S15
  ihave Hr := (filled_all' m c) $$ Hf
  unfold rvPay sdPay
  isplitl [A0 A1 A2 A3 A4 A5 A6 A7 A8 A9 A10 A11 A12 A13 A14 A15 S0 S1 S2 S3]
  · isplitl [A0 A1 A2 A3 A4 A5 A6 A7 A8 A9 A10 A11 A12 A13 A14 A15]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    isplitl [S0]; · iexact S0
    isplitl [S1]; · iexact S1
    isplitl [S2]; · iexact S2
    iexact S3
  iexact Hr

set_option maxHeartbeats 3200000 in
set_option maxRecDepth 100000 in
/-- The body run: from its positions, tokens and promises, its argument and any result buffer, to the argument and the gathered result, every
    semaphore at zero and nothing owed. -/
theorem sound_body {Kt : PUnit → sProp 𝕄} :
    iprop(recs m K ∗ lin c ∗ creds c ∗ Ow c (O₀ c) ∗ xP m c ∗ (∃ f : OC F, pt c Finset.univ fullShare f))
      ⊢ iprop(((Ow c 0 ∗ zeros c ∗ xP m c ∗ pt c Finset.univ fullShare (full m c)) -∗ Kt ⟨⟩)
          -∗ wp frame (wpE (defs₀ (F := F)) 𝒱₀ (c : Thread nD τ) none) Set.univ (cc0_body (Memref.whole cc0_stg0_0) (Memref.isWhole_whole _) (Memref.whole cc0_stg1_0) (Memref.isWhole_whole _) cc0_scratch0 cc0_scratch1 cc0_scratch2 cc0_scratch3 cc0_scratch4 cc0_scratch5 cc0_scratch6 cc0_scratch7 cc0_scratch8 cc0_scratch9) Kt) := by
  rw [cc0_body_eq_skeleton]; unfold cc0_body_skel
  unfold lin creds
  rw [bigSep_fin16, bigSep_fin16, bigSep_fin16, bigSep_fin3]
  iintro ⟨#HR, ⟨HB, ⟨Q0, Q1, Q2, Q3, Q4, Q5, Q6, Q7, Q8, Q9, Q10, Q11, Q12, Q13, Q14, Q15⟩, ⟨K0, K1, K2, K3, K4, K5, K6, K7, K8, K9, K10, K11, K12, K13, K14, K15⟩, T0, T1, T2⟩, ⟨HC, C0, C1, C2, C3, C4, C5, C6, C7, C8, C9, C10, C11, C12, C13, C14, C15⟩, HO, Hx, ⟨%f, Hout⟩⟩ Hk
  ihave Hc := (cut_out m c f) $$ Hout
  icases Hc with ⟨L0, L1, L2, W0, W1, W2, W3, Hf⟩
  rw [wp_bind]
  iapply (part1 m K c) $$ [HO T0 L0 T1 L1]
  · isplitr; · iexact HR
    isplitl [HO]; · iexact HO
    isplitl [T0]; · iexact T0
    isplitl [L0]; · iexact L0
    isplitl [T1]; · iexact T1
    iexact L1
  iintro %v2 %v5 %v8 %v9 %v10 %v11 %v14 %v31 HO
  dsimp only
  rw [wp_bind]
  iapply (part2 m K c _ _ _ _ _) $$ [HO T2 L2 HB HC Hx]
  · isplitr; · iexact HR
    isplitl [HO]; · iexact HO
    isplitl [T2]; · iexact T2
    isplitl [L2]; · iexact L2
    isplitl [HB]; · iexact HB
    isplitl [HC]; · iexact HC
    iexact Hx
  iintro %v34 %v36 %v40 %v45 %v50 %v56 ⟨HO, HRm, HB, Hx⟩
  dsimp only
  ihave Hrm := (Entails.of_eq (bigSep_fin16 fun n => room c n)) $$ HRm
  icases Hrm with ⟨R0, R1, R2, R3, R4, R5, R6, R7, R8, R9, R10, R11, R12, R13, R14, R15⟩
  ihave V0 := (show iprop(atPos ER (rv c 0) 0 ∅ 0 ∗ cred (tallyAt (rv c 0) () N)) ⊢ pend c (true, 0) from Entails.of_eq rfl) $$ [Q0 C0]
  · isplitl [Q0] <;> iassumption
  ihave V1 := (show iprop(atPos ER (rv c 1) 0 ∅ 0 ∗ cred (tallyAt (rv c 1) () N)) ⊢ pend c (true, 1) from Entails.of_eq rfl) $$ [Q1 C1]
  · isplitl [Q1] <;> iassumption
  ihave V2 := (show iprop(atPos ER (rv c 2) 0 ∅ 0 ∗ cred (tallyAt (rv c 2) () N)) ⊢ pend c (true, 2) from Entails.of_eq rfl) $$ [Q2 C2]
  · isplitl [Q2] <;> iassumption
  ihave V3 := (show iprop(atPos ER (rv c 3) 0 ∅ 0 ∗ cred (tallyAt (rv c 3) () N)) ⊢ pend c (true, 3) from Entails.of_eq rfl) $$ [Q3 C3]
  · isplitl [Q3] <;> iassumption
  ihave V4 := (show iprop(atPos ER (rv c 4) 0 ∅ 0 ∗ cred (tallyAt (rv c 4) () N)) ⊢ pend c (true, 4) from Entails.of_eq rfl) $$ [Q4 C4]
  · isplitl [Q4] <;> iassumption
  ihave V5 := (show iprop(atPos ER (rv c 5) 0 ∅ 0 ∗ cred (tallyAt (rv c 5) () N)) ⊢ pend c (true, 5) from Entails.of_eq rfl) $$ [Q5 C5]
  · isplitl [Q5] <;> iassumption
  ihave V6 := (show iprop(atPos ER (rv c 6) 0 ∅ 0 ∗ cred (tallyAt (rv c 6) () N)) ⊢ pend c (true, 6) from Entails.of_eq rfl) $$ [Q6 C6]
  · isplitl [Q6] <;> iassumption
  ihave V7 := (show iprop(atPos ER (rv c 7) 0 ∅ 0 ∗ cred (tallyAt (rv c 7) () N)) ⊢ pend c (true, 7) from Entails.of_eq rfl) $$ [Q7 C7]
  · isplitl [Q7] <;> iassumption
  ihave V8 := (show iprop(atPos ER (rv c 8) 0 ∅ 0 ∗ cred (tallyAt (rv c 8) () N)) ⊢ pend c (true, 8) from Entails.of_eq rfl) $$ [Q8 C8]
  · isplitl [Q8] <;> iassumption
  ihave V9 := (show iprop(atPos ER (rv c 9) 0 ∅ 0 ∗ cred (tallyAt (rv c 9) () N)) ⊢ pend c (true, 9) from Entails.of_eq rfl) $$ [Q9 C9]
  · isplitl [Q9] <;> iassumption
  ihave V10 := (show iprop(atPos ER (rv c 10) 0 ∅ 0 ∗ cred (tallyAt (rv c 10) () N)) ⊢ pend c (true, 10) from Entails.of_eq rfl) $$ [Q10 C10]
  · isplitl [Q10] <;> iassumption
  ihave V11 := (show iprop(atPos ER (rv c 11) 0 ∅ 0 ∗ cred (tallyAt (rv c 11) () N)) ⊢ pend c (true, 11) from Entails.of_eq rfl) $$ [Q11 C11]
  · isplitl [Q11] <;> iassumption
  ihave V12 := (show iprop(atPos ER (rv c 12) 0 ∅ 0 ∗ cred (tallyAt (rv c 12) () N)) ⊢ pend c (true, 12) from Entails.of_eq rfl) $$ [Q12 C12]
  · isplitl [Q12] <;> iassumption
  ihave V13 := (show iprop(atPos ER (rv c 13) 0 ∅ 0 ∗ cred (tallyAt (rv c 13) () N)) ⊢ pend c (true, 13) from Entails.of_eq rfl) $$ [Q13 C13]
  · isplitl [Q13] <;> iassumption
  ihave V14 := (show iprop(atPos ER (rv c 14) 0 ∅ 0 ∗ cred (tallyAt (rv c 14) () N)) ⊢ pend c (true, 14) from Entails.of_eq rfl) $$ [Q14 C14]
  · isplitl [Q14] <;> iassumption
  ihave V15 := (show iprop(atPos ER (rv c 15) 0 ∅ 0 ∗ cred (tallyAt (rv c 15) () N)) ⊢ pend c (true, 15) from Entails.of_eq rfl) $$ [Q15 C15]
  · isplitl [Q15] <;> iassumption
  rw [wp_bind]
  iapply (part3 m K c _ _ _ _ _ _ rfl) $$ [HO Hx W0 W1 K0 R0]
  · isplitr; · iexact HR
    isplitl [HO]; · iexact HO
    isplitl [Hx]; · iexact Hx
    isplitl [W0]; · iexact W0
    isplitl [W1]; · iexact W1
    isplitl [K0]; · iexact K0
    iexact R0
  iintro ⟨HO, Hx, D1, P0⟩
  rw [wp_bind]
  iapply (part4 m K c _ _ _ _ _) $$ [HO Hx D1 W2 W3 K1 R1 K2 R2]
  · isplitr; · iexact HR
    isplitl [HO]; · iexact HO
    isplitl [Hx]; · iexact Hx
    isplitl [D1]; · iexact D1
    isplitl [W2]; · iexact W2
    isplitl [W3]; · iexact W3
    isplitl [K1]; · iexact K1
    isplitl [R1]; · iexact R1
    isplitl [K2]; · iexact K2
    iexact R2
  iintro %v133 ⟨HO, Hx, D3, P1, P2⟩
  rw [wp_bind]
  iapply (part5 m K c _ _ _ _ _ _ _ _) $$ [HO Hx D3 K3 R3 Hf]
  · isplitr; · iexact HR
    isplitl [HO]; · iexact HO
    isplitl [Hx]; · iexact Hx
    isplitl [D3]; · iexact D3
    isplitl [K3]; · iexact K3
    isplitl [R3]; · iexact R3
    iexact Hf
  iintro ⟨HO, P3, Hx, Hf⟩
  rw [wp_bind]
  iapply (part6 m K c _ _ _ _ _ _ _ _) $$ [HO V0 K4 R4 K5 R5]
  · isplitr; · iexact HR
    isplitl [HO]; · iexact HO
    isplitl [V0]; · iexact V0
    isplitl [K4]; · iexact K4
    isplitl [R4]; · iexact R4
    isplitl [K5]; · iexact K5
    iexact R5
  iintro ⟨HO, Z0, P4, P5⟩
  rw [wp_bind]
  iapply (part7 m K c _ _ _ _ _ _ _ _) $$ [HO V1 K6 R6 K7 R7]
  · isplitr; · iexact HR
    isplitl [HO]; · iexact HO
    isplitl [V1]; · iexact V1
    isplitl [K6]; · iexact K6
    isplitl [R6]; · iexact R6
    isplitl [K7]; · iexact K7
    iexact R7
  iintro %v236 %v237 ⟨HO, Z1, P6, P7⟩
  dsimp only
  rw [wp_bind]
  iapply (part8 m K c _ _ _ _ _ _ _ _ _) $$ [HO V2 K8 R8 K9 R9]
  · isplitr; · iexact HR
    isplitl [HO]; · iexact HO
    isplitl [V2]; · iexact V2
    isplitl [K8]; · iexact K8
    isplitl [R8]; · iexact R8
    isplitl [K9]; · iexact K9
    iexact R9
  iintro %v271 ⟨HO, Z2, P8, P9⟩
  rw [wp_bind]
  iapply (part9 m K c _ _ _ _ _ _ _ _ _) $$ [HO V3 K10 R10 K11 R11]
  · isplitr; · iexact HR
    isplitl [HO]; · iexact HO
    isplitl [V3]; · iexact V3
    isplitl [K10]; · iexact K10
    isplitl [R10]; · iexact R10
    isplitl [K11]; · iexact K11
    iexact R11
  iintro ⟨HO, Z3, P10, P11⟩
  rw [wp_bind]
  iapply (part10 m K c _ _ _ _ _ _ _) $$ [HO V5 K12 R12]
  · isplitr; · iexact HR
    isplitl [HO]; · iexact HO
    isplitl [V5]; · iexact V5
    isplitl [K12]; · iexact K12
    iexact R12
  iintro ⟨HO, Z5, P12⟩
  rw [wp_bind]
  iapply (part11 m K c _ _ _ _ _ _ _ _ _) $$ [HO V7 K13 R13 V8]
  · isplitr; · iexact HR
    isplitl [HO]; · iexact HO
    isplitl [V7]; · iexact V7
    isplitl [K13]; · iexact K13
    isplitl [R13]; · iexact R13
    iexact V8
  iintro ⟨HO, Z7, P13, D14, Z8⟩
  rw [wp_bind]
  iapply (part12 m K c _ _ _ _ _ _ _) $$ [HO D14 K14 R14 V10 K15 R15]
  · isplitr; · iexact HR
    isplitl [HO]; · iexact HO
    isplitl [D14]; · iexact D14
    isplitl [K14]; · iexact K14
    isplitl [R14]; · iexact R14
    isplitl [V10]; · iexact V10
    isplitl [K15]; · iexact K15
    iexact R15
  iintro %v404 %v405 ⟨HO, P14, Z10, P15⟩
  dsimp only
  rw [wp_bind]
  iapply (part13 m K c _ _ _ _ _) $$ [HO V4 V6 V9]
  · isplitr; · iexact HR
    isplitl [HO]; · iexact HO
    isplitl [V4]; · iexact V4
    isplitl [V6]; · iexact V6
    iexact V9
  iintro %v436 %v437 ⟨HO, G4, G6, G9⟩
  dsimp only
  rw [wp_bind]
  iapply (part14 m K c _ _ _ _ _) $$ [HO V11 V12 V13]
  · isplitr; · iexact HR
    isplitl [HO]; · iexact HO
    isplitl [V11]; · iexact V11
    isplitl [V12]; · iexact V12
    iexact V13
  iintro ⟨HO, G11, G12, G13⟩
  rw [wp_bind]
  iapply (part15 m K c _ _ _) $$ [HO V14 V15 P0 P4 P5]
  · isplitr; · iexact HR
    isplitl [HO]; · iexact HO
    isplitl [V14]; · iexact V14
    isplitl [V15]; · iexact V15
    isplitl [P0]; · iexact P0
    isplitl [P4]; · iexact P4
    iexact P5
  iintro ⟨HO, G14, G15, G0s, G4s, G5s⟩
  rw [wp_bind]
  iapply (part16 m K c) $$ [HO P1 P6 P7 P2 P8 P9]
  · isplitr; · iexact HR
    isplitl [HO]; · iexact HO
    isplitl [P1]; · iexact P1
    isplitl [P6]; · iexact P6
    isplitl [P7]; · iexact P7
    isplitl [P2]; · iexact P2
    isplitl [P8]; · iexact P8
    iexact P9
  iintro ⟨HO, G1s, G6s, G7s, G2s, G8s, G9s⟩
  rw [wp_bind]
  iapply (part17 m K c) $$ [HO P3 P10 P11 P12 P14 P13]
  · isplitr; · iexact HR
    isplitl [HO]; · iexact HO
    isplitl [P3]; · iexact P3
    isplitl [P10]; · iexact P10
    isplitl [P11]; · iexact P11
    isplitl [P12]; · iexact P12
    isplitl [P14]; · iexact P14
    iexact P13
  iintro ⟨HO, G3s, G10s, G11s, G12s, G14s, G13s⟩
  simp only [Prog.lift, Prog.bind_op, Prog.bind_ret, Prog.pure_eq_ret]
  iapply (step_wait m K c (false, 15) 16 (by decide) rfl) $$ [HO P15]
  · isplitr; · iexact HR
    isplitl [HO]; · iexact HO
    iexact P15
  iintro ⟨HO, G15s⟩
  rw [wp_ret]; imodintro
  ihave Hg := (got_sd m c 0) $$ G0s; icases Hg with ⟨S0, Y0⟩
  ihave Hg := (got_sd m c 1) $$ G1s; icases Hg with ⟨S1, Y1⟩
  ihave Hg := (got_sd m c 2) $$ G2s; icases Hg with ⟨S2, Y2⟩
  ihave Hg := (got_sd m c 3) $$ G3s; icases Hg with ⟨S3, Y3⟩
  ihave Hg := (got_sd m c 4) $$ G4s; icases Hg with ⟨S4, Y4⟩
  ihave Hg := (got_sd m c 5) $$ G5s; icases Hg with ⟨S5, Y5⟩
  ihave Hg := (got_sd m c 6) $$ G6s; icases Hg with ⟨S6, Y6⟩
  ihave Hg := (got_sd m c 7) $$ G7s; icases Hg with ⟨S7, Y7⟩
  ihave Hg := (got_sd m c 8) $$ G8s; icases Hg with ⟨S8, Y8⟩
  ihave Hg := (got_sd m c 9) $$ G9s; icases Hg with ⟨S9, Y9⟩
  ihave Hg := (got_sd m c 10) $$ G10s; icases Hg with ⟨S10, Y10⟩
  ihave Hg := (got_sd m c 11) $$ G11s; icases Hg with ⟨S11, Y11⟩
  ihave Hg := (got_sd m c 12) $$ G12s; icases Hg with ⟨S12, Y12⟩
  ihave Hg := (got_sd m c 13) $$ G13s; icases Hg with ⟨S13, Y13⟩
  ihave Hg := (got_sd m c 14) $$ G14s; icases Hg with ⟨S14, Y14⟩
  ihave Hg := (got_sd m c 15) $$ G15s; icases Hg with ⟨S15, Y15⟩
  ihave Hg := (got_rv m c 4) $$ G4; icases Hg with ⟨A4, Z4⟩
  ihave Hg := (got_rv m c 6) $$ G6; icases Hg with ⟨A6, Z6⟩
  ihave Hg := (got_rv m c 9) $$ G9; icases Hg with ⟨A9, Z9⟩
  ihave Hg := (got_rv m c 11) $$ G11; icases Hg with ⟨A11, Z11⟩
  ihave Hg := (got_rv m c 12) $$ G12; icases Hg with ⟨A12, Z12⟩
  ihave Hg := (got_rv m c 13) $$ G13; icases Hg with ⟨A13, Z13⟩
  ihave Hg := (got_rv m c 14) $$ G14; icases Hg with ⟨A14, Z14⟩
  ihave Hg := (got_rv m c 15) $$ G15; icases Hg with ⟨A15, Z15⟩
  iapply Hk
  isplitl [HO]; · rw [← dues_end c]; iexact HO
  isplitl [HB Y0 Y1 Y2 Y3 Y4 Y5 Y6 Y7 Y8 Y9 Y10 Y11 Y12 Y13 Y14 Y15 Z0 Z1 Z2 Z3 Z4 Z5 Z6 Z7 Z8 Z9 Z10 Z11 Z12 Z13 Z14 Z15]
  · unfold zeros
    rw [bigSep_fin16, bigSep_fin16]
    isplitl [HB]; · iexact HB
    isplitl [Y0 Y1 Y2 Y3 Y4 Y5 Y6 Y7 Y8 Y9 Y10 Y11 Y12 Y13 Y14 Y15]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      isplitl [Y7]; · iexact Y7
      isplitl [Y8]; · iexact Y8
      isplitl [Y9]; · iexact Y9
      isplitl [Y10]; · iexact Y10
      isplitl [Y11]; · iexact Y11
      isplitl [Y12]; · iexact Y12
      isplitl [Y13]; · iexact Y13
      isplitl [Y14]; · iexact Y14
      iexact Y15
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    iexact Z15
  isplitl [Hx]; · iexact Hx
  iapply (put_out m c)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [A4]; · iexact A4
  isplitl [A6]; · iexact A6
  isplitl [A9]; · iexact A9
  isplitl [A11]; · iexact A11
  isplitl [A12]; · iexact A12
  isplitl [A13]; · iexact A13
  isplitl [A14]; · iexact A14
  isplitl [A15]; · iexact A15
  iexact Hf

end Cert.KernelIdeal.Gather

end
-- ==== Proof.Ideal.Launch.lean ====
/-
The launch: the tokens and counters dealt to the devices, what each device is promised by the others, and the run of the
whole mesh.
-/
module

public import proofs.«01_k».proof.Proof.Ideal.Whole
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state before the run: a memory, all counters at zero. -/
def s₀ : MemSt nD τ sig (Elt F) := ⟨m, fun _ => 0, ρ⟩

/-! ## What the call carries -/

/-- What a device has before the call. -/
def start (c : Dev nD) : sProp 𝕄 := iprop((∃ K, recs m K ∗ lin c) ∗ creds c)

/-- The two staged arrays and what they hold after the call, and what passes through it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => full m c
  Φ t := match t with
    | ⟨0, _⟩ => start m c
    | ⟨_ + 1, _⟩ => zeros c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(zeros c ∗ (dats m ρ 0 c).owesAt () t0_0.succ ∗ stg c cc0_stg0_0 (xstg m c) ∗ stg c cc0_stg1_0 (full m c))

/-- The call's body takes what the call carries before it to what it carries after it. -/
theorem body_run (c : Dev nD) :
    bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7 cc0_scratch8 cc0_scratch9)
      (fun _ => bodyPost m ρ c) := by
  unfold bodyPre start
  iintro ⟨⟨⟨%K, #HR, Hl⟩, Hc⟩, Ho, ⟨%d0, %g0, %hg0, Hx⟩, ⟨%d1, %g1, %hg1, Hout⟩⟩
  have hx : g0 = xstg m c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  iapply (sound_body m K c (Kt := fun _ => bodyPost m ρ c)) $$ [Hl Hc HO Hx Hout]
  · isplitr; · iexact HR
    isplitl [Hl]; · iexact Hl
    isplitl [Hc]; · iexact Hc
    isplitl [HO]; · unfold Ow; iexists W; iexact HO
    isplitl [Hx]; · unfold xP; iexact Hx
    iexists g1; unfold pt; iexact Hout
  unfold Ow xP pt
  iintro ⟨⟨%W', HO⟩, Hz, Hx, Hout⟩
  unfold bodyPost Dat.owesAt Pipeline.owesWithin
  rw [show (dats m ρ 0 c).owed t0_0.succ = 0 from rfl]
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
/-- The body obligation of the call on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## Cells and tokens -/

/-- The call's own semaphores. -/
abbrev osem (x : Bool × Fin 16) : SemLoc sig := csem (some x)

set_option maxRecDepth 20000 in
theorem ownSemFacts : Pipeline.OwnSemFacts cfg0.spec osem := by decide

theorem share_eq (c : Dev nD) (w : Fin cfg0.W) : (dats m ρ 0 c).share w = fullShare := by unfold Dat.share; split <;> rfl

/-- A family over a device's cells: the barrier, the sends, the receives. -/
theorem bigSep_cell (Φ : Cell → sProp 𝕄) :
    bigSep Finset.univ Φ = iprop(Φ none ∗ (bigSep Finset.univ fun n : Fin 16 => Φ (some (false, n))) ∗ bigSep Finset.univ fun n : Fin 16 => Φ (some (true, n))) := by
  have h : (Finset.univ : Finset Cell) = insert none ((Finset.univ : Finset (Bool × Fin 16)).map Function.Embedding.some) := by
    ext x; rcases x with _ | x <;> simp
  rw [h, BI.bigSep_insert (by simp), bigSep_map, bigSep_univ_prod, bigSep_univ_eq_bigSepL [false, true] (by decide) (by decide)]
  rfl

def cells : Finset (GSem nD τ sig) := Finset.univ.map ⟨fun ck : Dev nD × Cell => cell ck.1 ck.2, cell_injective⟩

/-- A duty of a device's own cells: a signal at the barrier, or a transfer cell's one. -/
abbrev Duty : Type := Fin 3 ⊕ (Bool × Fin 16)
def cellOfDuty : Duty → Cell
  | .inl _ => none
  | .inr x => some x
def dirOfDuty : Duty → Fin 3
  | .inl d => d
  | .inr _ => 0
theorem duty_injective : Function.Injective fun j : Duty => (cellOfDuty j, dirOfDuty j) := by
  rintro (d | x) (d' | x') h
  · exact congrArg _ (congrArg Prod.snd h)
  · exact absurd (congrArg Prod.fst h) (fun h => by cases h)
  · exact absurd (congrArg Prod.fst h) (fun h => by cases h)
  · exact congrArg _ (Option.some.inj (congrArg Prod.fst h))

def tokOf (cj : Dev nD × Duty) : GSem nD τ sig × ℕ × Fin 3 := (cell cj.1 (cellOfDuty cj.2), 0, dirOfDuty cj.2)
theorem tokOf_injective : Function.Injective tokOf := by
  rintro ⟨c, j⟩ ⟨c', j'⟩ h
  have h1 := @cell_injective (c, cellOfDuty j) (c', cellOfDuty j') (congrArg Prod.fst h)
  have h2 : dirOfDuty j = dirOfDuty j' := congrArg (fun x : GSem nD τ sig × ℕ × Fin 3 => x.2.2) h
  have h3 : cellOfDuty j = cellOfDuty j' := congrArg Prod.snd h1
  rw [show c = c' from congrArg Prod.fst h1, duty_injective (Prod.ext h3 h2)]
def tokens : Finset (GSem nD τ sig × ℕ × Fin 3) := Finset.univ.map ⟨tokOf, tokOf_injective⟩

/-- The resource the launch starts from. -/
def u₀ : UU :=
  (initOf (Pipeline.cells cfgs cellOf_inj) (Pipeline.launchToks cfgs cellOf_inj), initOf cells tokens)

/-- The tokens of the duties at a device's own cells. -/
def toks (c : Dev nD) : sProp 𝕄 :=
  iprop((bigSep Finset.univ fun d : Fin 3 => dutyTok ER (bar c) 0 d) ∗ (bigSep Finset.univ fun n : Fin 16 => dutyTok ER (sd c n) 0 0)
    ∗ bigSep Finset.univ fun n : Fin 16 => dutyTok ER (rv c n) 0 0)
/-- The tokens of the duties a device pays. -/
def payToks (c : Dev nD) : sProp 𝕄 :=
  iprop((bigSep Finset.univ fun d : Fin 3 => dutyTok ER (bar (nbr d c)) 0 d) ∗ (bigSep Finset.univ fun n : Fin 16 => dutyTok ER (sd c n) 0 0)
    ∗ bigSep Finset.univ fun n : Fin 16 => dutyTok ER (rv (nbr (dir n) c) n) 0 0)

/-- What the launch deals a device, -/
def G (c : Dev nD) : sProp 𝕄 :=
  iprop((bigSep Finset.univ fun k : Cell => roundState ER (Rd m) (cell c k) 0)
    ∗ (bigSep Finset.univ fun k : Cell => iprop(atPos ER (cell c k) 0 ∅ 0 ∗ reached ER (cell c k) 0)) ∗ toks c)

/-- what all know once every invariant is there, -/
def know (K : Dev nD × Cell → ℕ) : sProp 𝕄 :=
  iprop((bigSep Finset.univ fun ck : Dev nD × Cell => cellInv ER (Rd m) (K ck) (cell ck.1 ck.2))
    ∗ (bigSep Finset.univ fun ck : Dev nD × Cell => reached ER (cell ck.1 ck.2) 0))
instance know_persistent (K : Dev nD × Cell → ℕ) : BI.Persistent (know m K) := by unfold know; infer_instance

/-- and what a device then holds. -/
def G' (c : Dev nD) : sProp 𝕄 := iprop(∃ K, know m K ∗ lin c)

/-- The launch's resource is what it deals the devices. -/
theorem fund : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Cell => Φ (cell c k) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    refine bigSep_congr fun c _ => ?_
    rw [BI.bigSep_univ_sum, bigSep_univ_prod, bigSep_univ_eq_bigSepL [false, true] (by decide) (by decide)]
    rfl
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The call's own semaphores are the sends and the receives; -/
theorem ownSems0_eq (c : Dev nD) : (Pipeline.ownSems0 (Ix := Unit) (Name := ℕ) (U := UU) (Lvl := ℕ) (Val := Elt F) (τ := τ) osem c : sProp 𝕄)
    = iprop((bigSep Finset.univ fun n : Fin 16 => semVal (sd c n) 0) ∗ bigSep Finset.univ fun n : Fin 16 => semVal (rv c n) 0) := by
  unfold Pipeline.ownSems0
  rw [bigSep_univ_prod, bigSep_univ_eq_bigSepL [false, true] (by decide) (by decide)]; rfl
/-- the barrier is the one other. -/
theorem unscopedSems0_eq (c : Dev nD) : (unscopedSems0 c : sProp 𝕄) = semVal (bar c) 0 := by
  unfold unscopedSems0; rw [bigSep_eq_bigSepL_of_eq [csem none] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (cell c k) 0 : sProp 𝕄) := by
  rw [ownSems0_eq, unscopedSems0_eq, bigSep_cell]
  iintro ⟨⟨HS, HV⟩, HB⟩
  isplitl [HB]; · iexact HB
  isplitl [HS] <;> iassumption

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (cell c k)))
          ∗ (bigSep Finset.univ fun k : Cell => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (cell c k) 0) ∗ bigSep Finset.univ fun k : Cell => roundState ER (Rd m) (cell c k) 0)
      ⊢ (|={Set.univ}=> bigSep Finset.univ fun k : Cell => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- A family of tokens, one per device and label, each passed to the neighbour in the label's direction. -/
theorem pass {I : Type} [Fintype I] [DecidableEq I] (e : I → Fin 3) (Φ : Dev nD → I → sProp 𝕄) :
    (bigSep Finset.univ fun c : Dev nD => bigSep Finset.univ fun i : I => Φ c i)
      = bigSep Finset.univ fun c : Dev nD => bigSep Finset.univ fun i : I => Φ (nbr (e i) c) i := by
  have eqv : ∀ Ψ : Dev nD × I → sProp 𝕄, bigSep Finset.univ Ψ = bigSep Finset.univ fun x : Dev nD × I => Ψ (nbr (e x.2) x.1, x.2) := fun Ψ =>
    bigSep_univ_equiv ⟨fun x : Dev nD × I => (nbr (e x.2) x.1, x.2), fun x => (nbr (e x.2) x.1, x.2),
      fun x => by simp only [nbr_nbr], fun x => by simp only [nbr_nbr]⟩ Ψ
  have h := eqv fun x => Φ x.1 x.2
  rw [bigSep_univ_prod, bigSep_univ_prod] at h
  exact h

/-- The tokens dealt to those who pay the duties. -/
theorem toks_around : (bigSep Finset.univ fun c : Dev nD => (toks c : sProp 𝕄)) = bigSep Finset.univ fun c : Dev nD => payToks c := by
  unfold toks payToks
  rw [bigSep_sep', bigSep_sep', bigSep_sep', bigSep_sep',
    pass (fun d : Fin 3 => d) fun c d => (dutyTok ER (bar c) 0 d : sProp 𝕄), pass dir fun c n => (dutyTok ER (rv c n) 0 0 : sProp 𝕄)]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions and the tokens it pays are what it starts with. -/
theorem lin_intro (c : Dev nD) :
    iprop((bigSep Finset.univ fun k : Cell => (atPos ER (cell c k) 0 ∅ 0 : sProp 𝕄)) ∗ payToks c) ⊢ lin c := by
  unfold lin payToks kit
  rw [bigSep_cell, bigSep_sep', bigSep_sep']
  iintro ⟨⟨HB, HS, HV⟩, TB, TS, TV⟩
  isplitl [HB]; · iexact HB
  isplitl [HV]; · iexact HV
  isplitl [HS TS TV]
  · isplitl [HS]; · iexact HS
    isplitl [TS] <;> iassumption
  iexact TB

theorem ghost_intro (K : Dev nD × Cell → ℕ) (c : Dev nD) :
    iprop(know m K ∗ ((bigSep Finset.univ fun k : Cell => (atPos ER (cell c k) 0 ∅ 0 : sProp 𝕄)) ∗ payToks c)) ⊢ G' m c := by
  unfold G'
  iintro ⟨#HK, H⟩
  iexists K
  isplitr; · iexact HK
  iapply (lin_intro (F := F) c); iexact H

/-- From all the devices' invariants and tokens, what each holds. -/
theorem regroup :
    (bigSep Finset.univ fun c : Dev nD => iprop((bigSep Finset.univ fun k : Cell => iprop(∃ κ : ℕ, cellInv ER (Rd m) κ (cell c k)))
          ∗ (bigSep Finset.univ fun k : Cell => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × Cell => iprop(∃ κ : ℕ, cellInv ER (Rd m) κ (cell ck.1 ck.2))),
    bigSep_congr (s := Finset.univ) (fun (c : Dev nD) _ => bigSep_sep' Finset.univ (fun k : Cell => (atPos ER (cell c k) 0 ∅ 0 : sProp 𝕄)) (fun k => reached ER (cell c k) 0)),
    bigSep_sep', ← bigSep_univ_prod (fun ck : Dev nD × Cell => (reached ER (cell ck.1 ck.2) 0 : sProp 𝕄)), toks_around]
  iintro ⟨HI, ⟨Hat, #HR⟩, Htok⟩
  ihave HK := (BI.bigSep_exists_pi Finset.univ (fun (ck : Dev nD × Cell) (κ : ℕ) => (cellInv ER (Rd m) κ (cell ck.1 ck.2) : sProp 𝕄))) $$ HI
  icases HK with ⟨%K, #HI⟩
  iapply (bigSep_with_persistent (R := know m K) fun c _ => ghost_intro m K c)
  isplitr
  · unfold know; isplitl; · iexact HI
    iexact HR
  · rw [bigSep_sep']
    isplitl [Hat] <;> iassumption

/-- The whole launch's deal: from all the devices' counters and shares. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is promised -/

theorem cell_eq_iff (a b : Dev nD) (k l : Cell) : cell a k = cell b l ↔ a = b ∧ k = l :=
  ⟨fun h => Prod.ext_iff.mp (@cell_injective (a, k) (b, l) h), fun ⟨h1, h2⟩ => by rw [h1, h2]⟩

/-- One device's signal in a direction, seen from a cell. -/
theorem sig1_cell (d c : Dev nD) (i : Fin 3) (k : Cell) : sig1 d i (cell c k) () = if d = nbr i c ∧ k = none then 1 else 0 := by
  unfold sig1
  rw [tallyAt_apply]
  refine if_congr ?_ rfl rfl
  rw [show bar (nbr i d) = cell (nbr i d) none from rfl, cell_eq_iff, ← eq_nbr_iff]
  exact ⟨fun h => ⟨h.1.1.symm, h.1.2⟩, fun h => ⟨⟨h.1.symm, h.2⟩, rfl⟩⟩
/-- One device's transfer, seen from a cell. -/
theorem due_cell (d c : Dev nD) (n : Fin 16) (k : Cell) : due d n (cell c k) () = if d = nbr (dir n) c ∧ k = some (true, n) then N else 0 := by
  unfold due
  rw [tallyAt_apply]
  refine if_congr ?_ rfl rfl
  rw [show rv (nbr (dir n) d) n = cell (nbr (dir n) d) (some (true, n)) from rfl, cell_eq_iff, ← eq_nbr_iff]
  exact ⟨fun h => ⟨h.1.1.symm, h.1.2⟩, fun h => ⟨⟨h.1.symm, h.2⟩, rfl⟩⟩

theorem dues_cell (d : Dev nD) (g : GSem nD τ sig) : dues d 0 g () = ∑ n : Fin 16, due d n g () := by
  unfold dues
  rw [Finset.sum_apply, Finsupp.finset_sum_apply, show ((Finset.univ : Finset (Fin 16)).filter fun n => 0 ≤ n.val) = Finset.univ from by decide]

theorem O₀_cell (d : Dev nD) (g : GSem nD τ sig) :
    O₀ d g () = dues d 0 g () + sig1 d 2 g () + sig1 d 1 g () + sig1 d 0 g () := by
  unfold O₀
  rw [Pi.add_apply, Finsupp.add_apply, Pi.add_apply, Finsupp.add_apply, Pi.add_apply, Finsupp.add_apply]

/-- What a device owes another's barrier: a unit per direction the other lies in; -/
theorem owed_bar (d c : Dev nD) :
    O₀ d (bar c) () = (if d = nbr 2 c then 1 else 0) + (if d = nbr 1 c then 1 else 0) + (if d = nbr 0 c then 1 else 0) := by
  have h (i : Fin 3) : sig1 d i (bar c) () = if d = nbr i c then 1 else 0 := by
    rw [sig1_cell]; exact if_congr ⟨fun h => h.1, fun h => ⟨h, rfl⟩⟩ rfl rfl
  have h0 : dues d 0 (bar c) () = 0 := by
    rw [dues_cell]
    exact Finset.sum_eq_zero fun n _ => by rw [due_cell, if_neg fun h => by cases h.2]
  rw [O₀_cell, h0, h, h, h, Nat.zero_add]
/-- and another's receive cell the transfer from it. -/
theorem owed_recv (d c : Dev nD) (n : Fin 16) : O₀ d (rv c n) () = if d = nbr (dir n) c then N else 0 := by
  have h (i : Fin 3) : sig1 d i (rv c n) () = 0 := by
    rw [sig1_cell, if_neg fun h => by cases h.2]
  have h0 : dues d 0 (rv c n) () = if d = nbr (dir n) c then N else 0 := by
    rw [dues_cell, Finset.sum_eq_single n]
    · rw [due_cell]; exact if_congr ⟨fun h => h.1, fun h => ⟨h, rfl⟩⟩ rfl rfl
    · intro n' _ hn
      rw [due_cell, if_neg fun h => hn (congrArg Prod.snd (Option.some.inj h.2)).symm]
    · exact fun h => absurd (Finset.mem_univ n) h
  rw [O₀_cell, h0, h, h, h]; simp only [Nat.add_zero]

theorem launch_bar (c : Dev nD) :
    tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_recv (c : Dev nD) (n : Fin 16) :
    tallyOn (rv c n) (launchCredit (Pipeline.owing O₀) 0 (rv c n)) = (tallyAt (rv c n) () N : CellTallies nD τ sig Unit) := by
  unfold tallyAt; refine congrArg _ (Finsupp.ext fun u => ?_); cases u
  rw [Pipeline.launchCredit_owing, Finsupp.single_eq_same, Finset.sum_congr rfl fun d _ => owed_recv d c n]
  simp only [Finset.sum_ite_eq', Finset.mem_univ, if_true]

/-- The launch's promise to a device holds its barrier's three signals and every transfer to it. -/
theorem creds_intro (c : Dev nD) : (Pipeline.launchCred O₀ c : sProp 𝕄) ⊢ creds c := by
  have h (Φ : SemLoc sig → sProp 𝕄) : bigSep Finset.univ Φ ⊢ bigSep Finset.univ fun k : Cell => Φ (csem k) := by
    refine (BI.bigSep_subset (Finset.subset_univ (Finset.univ.map ⟨csem, csem_injective⟩))).trans ?_
    rw [bigSep_map]; exact BI.Entails.refl _
  have hr : (bigSep Finset.univ fun n : Fin 16 => (cred (tallyOn (rv c n) (launchCredit (Pipeline.owing O₀) 0 (rv c n))) : sProp 𝕄))
      = bigSep Finset.univ fun n : Fin 16 => cred (tallyAt (rv c n) () N) :=
    bigSep_congr fun n _ => by rw [launch_recv]
  unfold Pipeline.launchCred creds
  refine (h _).trans ?_
  rw [bigSep_cell, launch_bar, hr]
  iintro ⟨HB, -, HV⟩
  isplitl [HB] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, #Hlev, Hcr, -, HG⟩
  ihave Hc := (creds_intro (F := F) c) $$ Hcr
  imodintro
  unfold start G' know recs
  icases HG with ⟨%K, ⟨#HI, #HR⟩, Hl⟩
  isplitl
  · isplitl [Hl]
    · iexists K
      isplitr
      · isplitr; · iexact HI
        isplitr; · iexact HR
        iexact Hlev
      iexact Hl
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq, ownSems0_eq, unscopedSems0_eq]
  unfold zeros
  iintro ⟨HB, HS, HV⟩
  isplitl [HB]; · iexact HB
  isplitl
  · isplitl [HS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array after the run. -/
def finalA (c : Dev nD) (w : Fin cfg0.W) : Buf (Elt F) ((cfg0.win w).arr.view.loc (c : Thread nD τ)) := (dats m ρ 0 c).arrAt w cfg0.N

/-- Every device's two arrays are as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with counters at zero, every fair run of the mesh ends, with the two arrays of every device as
    computed and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Gather

end
-- ==== Proof.Ideal.Result.lean ====
/-
The two arrays of every device after the run: the argument as it was, the result the gathered array.
-/
module

public import proofs.«01_k».proof.Proof.Ideal.Launch
public import Idealize.ShloMosaic.Lib.Pipeline.Value

@[expose] public section

noncomputable section

namespace Cert.KernelIdeal.Gather

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The argument ends as it was. -/
theorem finalA_arg (c : Dev nD) : finalA m ρ c (0 : Fin 2) = m ((c : Thread nD τ).loc main_arg0) :=
  (dats (F := F) m ρ 0 c).arrAt_in (0 : Fin 2) rfl _

/-- The argument is staged whole. -/
theorem xstg_eq (c : Dev nD) : xstg m c = m ((c : Thread nD τ).loc main_arg0) := by
  unfold xstg
  funext i
  rw [View.read_apply]
  refine (cast_eq _ _).trans (congrArg _ (funext fun a => Fin.ext ?_))
  show 0 * _ + 1 * (i a).val = _
  omega

/-- The result's block is the whole array. -/
theorem emb_result (t : Fin cfg0.N) (i : S4096x512.Idx) : ((cfg0.win (1 : Fin 2)).blk t).view.emb i = i := by
  refine funext fun a => Fin.ext ?_
  show 0 * _ + 1 * (i a).val = _
  omega

/-- The result ends as the gathered array. -/
theorem finalA_result (c : Dev nD) : finalA m ρ c (1 : Fin 2) = full m c := by
  refine (dats (F := F) m ρ 0 c).arrAt_eq_of_cover (1 : Fin 2) (full m c) (fun t _ => ?_) fun i => ⟨t0_0, ?_, ?_⟩
  · obtain rfl := fin_N0 t
    funext i
    rw [View.read_apply]
    show full m c i = _
    exact ((cast_eq _ _).trans (congrArg (full m c) (emb_result t0_0 i))).symm
  · rfl
  · have h := ((cfg0.win (1 : Fin 2)).blk t0_0).view.emb_mem_set i
    rw [emb_result] at h
    exact h

/-- Every fair run ends, with every device's argument as it was, its result the gathered array, and all counters at zero. -/
theorem run : θ_run (defs (F := F)) (onTc (τ := τ) (main (F := F))) ⟨m, fun _ => 0, ρ⟩ (fun r =>
    (∀ c : Dev nD, r.2.mem ((c.tc : Thread nD τ).loc main_v1) = full m c
      ∧ r.2.mem ((c.tc : Thread nD τ).loc main_arg0) = m ((c.tc : Thread nD τ).loc main_arg0)) ∧ r.2.sem = fun _ => 0) :=
  (θ_run (defs (F := F)) _ _).mono (fun r h => ⟨fun c => ⟨(h.1 c (1 : Fin 2)).trans (finalA_result m ρ c), (h.1 c (0 : Fin 2)).trans (finalA_arg m ρ c)⟩, h.2⟩)
    (run_main m ρ)

end Cert.KernelIdeal.Gather

end
-- ==== Proof.Ideal.Gathered.lean ====
/-
The gathered array is the whole array of which every device's argument is a block.
-/
module

public import proofs.«01_k».proof.Proof.Ideal.Result
public import Idealize.ShloMosaic.Lib.Layout

@[expose] public section

noncomputable section

namespace Cert.KernelIdeal.Gather

open Cert.KernelIdeal Cert.KernelIdeal.Gen
open Idealize.ShloMosaic
open Idealize.ShloMosaic.TcCoe

variable {F : FTy → Type} [FloatOps F]
variable (m : (ℓ : Loc nD τ sig) → Buf (Elt F) ℓ)

/-- The block of rows device `c` holds is numbered by its second mesh coordinate. -/
theorem block_row : ∀ c : Dev nD, Layout.meshLin [2, 2, 4] c.val [1] = (c.val / 4) % 2 := by decide

/-- If every device's argument is its half of the rows of `X`, every device's result is to be `X`. -/
theorem full_eq (X : S4096x512.Idx → Elt F .bf16)
    (h : ∀ c : Dev nD, m ((c : Thread nD τ).loc main_arg0)
      = Layout.blockN ⟨2, ![2048, 512]⟩ ⟨2, ![4096, 512]⟩ (Layout.meshBlock [2, 2, 4] ![[1], []] c) X)
    (c : Dev nD) : full m c = X := by
  funext i
  unfold full
  rw [xstg_eq, h]
  refine congrArg X (funext fun a => Fin.ext ?_)
  match a with
  | ⟨0, _⟩ =>
    show Layout.meshLin [2, 2, 4] (srcDev c (chunkOf i)).val [1] * 2048 + (i (0 : Fin 2)).val % 2048 = (i (0 : Fin 2)).val
    have hi : (i (0 : Fin 2)).val < 4096 := (i (0 : Fin 2)).isLt
    have hc : (chunkOf i).val = (i (0 : Fin 2)).val / 128 := rfl
    rw [block_row, srcDev_half, hc]
    omega
  | ⟨1, _⟩ =>
    show 0 * 512 + (i (1 : Fin 2)).val = (i (1 : Fin 2)).val
    omega

end Cert.KernelIdeal.Gather

end
-- ==== Proof.Ref.Run.lean ====
/-
The run of the reference: it returns its argument.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Identity

open Cert.ReferenceIdeal
open Idealize.ShloMosaic
open Idealize.ShloMosaic.StableHlo
open Idealize.SL.Sem

variable {F : FTy → Type} [FloatOps F]

theorem no_scoped_refs : (Finset.univ.filter fun b : Ref sig .tc => b.isScoped) = ∅ := by decide
theorem no_scoped_sems : (Finset.univ.filter fun sm : SemLoc sig => sm.isScoped .tc) = ∅ := by decide

/-- From any memory, the reference ends with its argument as it was and no counter raised. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run (defs (F := F)) _ _).mono (fun r h => ⟨fun c => h c main_arg0, sem_eq_zero_of_no_sems (by decide) r.2⟩)
    (run_seq no_scoped_refs no_scoped_sems (defs (F := F)) (main (F := F)) (fun _ => []) (fun _ => rfl) (fun _ => trivial) m ρ)

end Cert.ReferenceIdeal.Identity

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Bits.Result
public import proofs.«01_k».proof.Proof.Ideal.Gathered
public import proofs.«01_k».proof.Proof.Ref.Run
public import Idealize.ShloMosaic.Adequacy
public import Idealize.ShloMosaic.Init

@[expose] public section

noncomputable section

namespace Cert.Proof

open Idealize.ShloMosaic Idealize.SL.Sem Cert.Kernel

/-- The kernel at bits runs, and leaves its argument and every counter as it found them. -/
theorem frame_bits : Cert.quiescent_Kernel := fun m ρ _ =>
  (θ_run Cert.Kernel.defs _ _).mono (fun _ h => ⟨fun c => (h.1 c).2, h.2⟩) (Cert.Kernel.Gather.run (F := Bits) m ρ)

/-- So does the kernel at ideal numbers, -/
theorem frame_ideal : Cert.quiescent_KernelIdeal := fun m ρ _ =>
  (θ_run Cert.KernelIdeal.defs _ _).mono (fun _ h => ⟨fun c => (h.1 c).2, h.2⟩) (Cert.KernelIdeal.Gather.run (F := Ideal) m ρ)

/-- and the reference. -/
theorem frame_ref : Cert.quiescent_ReferenceIdeal := fun m ρ _ => Cert.ReferenceIdeal.Identity.run (F := Ideal) m ρ

/-- Every device ends with the whole array, its rows in order, which is what the reference returns. -/
theorem gathered : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ hr c => ⟨(hr.1 c).1.trans (Cert.KernelIdeal.Gather.full_eq m _ h c), (hr.1 c).2⟩) (Cert.KernelIdeal.Gather.run (F := Ideal) m ρ),
    (θ_run Cert.ReferenceIdeal.defs _ _).mono (fun _ hr => ⟨hr.1 0, hr.1 0⟩) (Cert.ReferenceIdeal.Identity.run (F := Ideal) m' ρ')⟩

/-- All the claims. -/
theorem claim : Cert.Claim :=
  ⟨Cert.Kernel.Gen.facts, Cert.KernelIdeal.Gen.facts, Cert.ReferenceIdeal.Gen.facts, frame_bits, frame_ideal, frame_ref, trivial, gathered⟩

end Cert.Proof

end
